-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S128x1 : Shape := ⟨2, ![128, 1]⟩
abbrev S128 : Shape := ⟨1, ![128]⟩
abbrev S64x2048 : Shape := ⟨2, ![64, 2048]⟩
abbrev S64x1 : Shape := ⟨2, ![64, 1]⟩
abbrev S64 : Shape := ⟨1, ![64]⟩

abbrev nBuf : Space → Nat
  | .hbm => 3
  | .vmem => 6
  | .smem => 0
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S128, .i32⟩
  | .local _ .vmem, ⟨0, _⟩ => ⟨S64x2048, .f32⟩
  | .local _ .vmem, ⟨1, _⟩ => ⟨S64x2048, .f32⟩
  | .local _ .vmem, ⟨2, _⟩ => ⟨S64x1, .i32⟩
  | .local _ .vmem, ⟨3, _⟩ => ⟨S64x1, .i32⟩
  | .local _ .vmem, ⟨4, _⟩ => ⟨S64x1, .f32⟩
  | .local _ .vmem, ⟨5, _⟩ => ⟨S64x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v236 : BitVec 1 := Scalar.cmpi .eq arg1 c48_i32
  let v237 : BitVec 32 := Scalar.extui v236
  let c0_i32_62 : BitVec 32 := 0#32
  let v238 : BitVec 1 := Scalar.cmpi .ne v237 c0_i32_62
  v238

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩

abbrev nBuf : Space → Nat
  | .hbm => 284
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S128x100000, .i64⟩
  | 21 => ⟨S128x100000, .i64⟩
  | 22 => ⟨S_, .i64⟩
  | 23 => ⟨S128x100000, .i64⟩
  | 24 => ⟨S128x100000, .i64⟩
  | 25 => ⟨S_, .i64⟩
  | 26 => ⟨S128x100000, .i64⟩
  | 27 => ⟨S128x100000, .i64⟩
  | 28 => ⟨S128x100000, .i64⟩
  | 29 => ⟨S_, .i64⟩
  | 30 => ⟨S128x100000, .i64⟩
  | 31 => ⟨S128x100000, .i64⟩
  | 32 => ⟨S128x100000, .i32⟩
  | 33 => ⟨S128x100000, .i32⟩
  | 34 => ⟨S_, .i32⟩
  | 35 => ⟨S_, .i32⟩
  | 36 => ⟨S_, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S128x100000, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S128x100000, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S_, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S128x100000, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S_, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S128x100000, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S_, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S_, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_2 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .f32⟩
  | 8 => ⟨S_, .f32⟩
  | 9 => ⟨S128x100000, .f32⟩
  | 10 => ⟨S128x100000, .f32⟩
  | 11 => ⟨S1x1, .f32⟩
  | 12 => ⟨S128x100000, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S128x100000, .f32⟩
  | 21 => ⟨S128x100000, .f32⟩
  | 22 => ⟨S128x100000, .f32⟩
  | 23 => ⟨S128x100000, .i32⟩
  | 24 => ⟨S_, .f32⟩
  | 25 => ⟨S_, .i32⟩
  | 26 => ⟨S128, .f32⟩
  | 27 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_c_0 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_c_1 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_call0_v0 : Ref sig .tc := ⟨.hbm, 34, rfl⟩
abbrev main_call0_call0_call0_c : Ref sig .tc := ⟨.hbm, 35, rfl⟩
abbrev main_call0_call0_call0_v1 : Ref sig .tc := ⟨.hbm, 36, rfl⟩
abbrev main_call0_call0_call0_v2 : Ref sig .tc := ⟨.hbm, 37, rfl⟩
abbrev main_call0_call0_call0_v3 : Ref sig .tc := ⟨.hbm, 38, rfl⟩
abbrev main_call0_call0_call0_v4 : Ref sig .tc := ⟨.hbm, 39, rfl⟩
abbrev main_call0_call0_call0_v5 : Ref sig .tc := ⟨.hbm, 40, rfl⟩
abbrev main_call0_call0_call0_v6 : Ref sig .tc := ⟨.hbm, 41, rfl⟩
abbrev main_call0_call0_call0_c_0 : Ref sig .tc := ⟨.hbm, 42, rfl⟩
abbrev main_call0_call0_call0_v7 : Ref sig .tc := ⟨.hbm, 43, rfl⟩
abbrev main_call0_call0_call0_v8 : Ref sig .tc := ⟨.hbm, 44, rfl⟩
abbrev main_call0_call0_call0_c_1 : Ref sig .tc := ⟨.hbm, 45, rfl⟩
abbrev main_call0_call0_call0_v9 : Ref sig .tc := ⟨.hbm, 46, rfl⟩
abbrev main_call0_call0_call0_v10 : Ref sig .tc := ⟨.hbm, 47, rfl⟩
abbrev main_call0_call0_call0_v11 : Ref sig .tc := ⟨.hbm, 48, rfl⟩
abbrev main_call0_call0_call0_v12 : Ref sig .tc := ⟨.hbm, 49, rfl⟩
abbrev main_call0_call0_call0_v13 : Ref sig .tc := ⟨.hbm, 50, rfl⟩
abbrev main_call0_call0_call0_c_2 : Ref sig .tc := ⟨.hbm, 51, rfl⟩
abbrev main_call0_call0_call0_v14 : Ref sig .tc := ⟨.hbm, 52, rfl⟩
abbrev main_call0_call0_call0_v15 : Ref sig .tc := ⟨.hbm, 53, rfl⟩
abbrev main_call0_call0_call0_c_3 : Ref sig .tc := ⟨.hbm, 54, rfl⟩
abbrev main_call0_call0_call0_v16 : Ref sig .tc := ⟨.hbm, 55, rfl⟩
abbrev main_call0_call0_call0_v17 : Ref sig .tc := ⟨.hbm, 56, rfl⟩
abbrev main_call0_call0_call0_v18 : Ref sig .tc := ⟨.hbm, 57, rfl⟩
abbrev main_call0_call0_call0_v19 : Ref sig .tc := ⟨.hbm, 58, rfl⟩
abbrev main_call0_call0_call0_v20 : Ref sig .tc := ⟨.hbm, 59, rfl⟩
abbrev main_call0_call0_call0_c_4 : Ref sig .tc := ⟨.hbm, 60, rfl⟩
abbrev main_call0_call0_call0_v21 : Ref sig .tc := ⟨.hbm, 61, rfl⟩
abbrev main_call0_call0_call0_v22 : Ref sig .tc := ⟨.hbm, 62, rfl⟩
abbrev main_call0_call0_call0_c_5 : Ref sig .tc := ⟨.hbm, 63, rfl⟩
abbrev main_call0_call0_call0_v23 : Ref sig .tc := ⟨.hbm, 64, rfl⟩
abbrev main_call0_call0_call0_v24 : Ref sig .tc := ⟨.hbm, 65, rfl⟩
abbrev main_call0_call0_call0_v25 : Ref sig .tc := ⟨.hbm, 66, rfl⟩
abbrev main_call0_call0_call0_v26 : Ref sig .tc := ⟨.hbm, 67, rfl⟩
abbrev main_call0_call0_call0_v27 : Ref sig .tc := ⟨.hbm, 68, rfl⟩
abbrev main_call0_call0_call0_c_6 : Ref sig .tc := ⟨.hbm, 69, rfl⟩
abbrev main_call0_call0_call0_v28 : Ref sig .tc := ⟨.hbm, 70, rfl⟩
abbrev main_call0_call0_call0_v29 : Ref sig .tc := ⟨.hbm, 71, rfl⟩
abbrev main_call0_call0_call0_c_7 : Ref sig .tc := ⟨.hbm, 72, rfl⟩
abbrev main_call0_call0_call0_v30 : Ref sig .tc := ⟨.hbm, 73, rfl⟩
abbrev main_call0_call0_call0_v31 : Ref sig .tc := ⟨.hbm, 74, rfl⟩
abbrev main_call0_call0_call0_v32 : Ref sig .tc := ⟨.hbm, 75, rfl⟩
abbrev main_call0_call0_call0_v33 : Ref sig .tc := ⟨.hbm, 76, rfl⟩
abbrev main_call0_call0_call0_v34 : Ref sig .tc := ⟨.hbm, 77, rfl⟩
abbrev main_call0_call0_call0_v35 : Ref sig .tc := ⟨.hbm, 78, rfl⟩
abbrev main_call0_call0_call0_v36 : Ref sig .tc := ⟨.hbm, 79, rfl⟩
abbrev main_call0_call0_call0_v37 : Ref sig .tc := ⟨.hbm, 80, rfl⟩
abbrev main_call0_call0_call0_c_8 : Ref sig .tc := ⟨.hbm, 81, rfl⟩
abbrev main_call0_call0_call0_v38 : Ref sig .tc := ⟨.hbm, 82, rfl⟩
abbrev main_call0_call0_call0_v39 : Ref sig .tc := ⟨.hbm, 83, rfl⟩
abbrev main_call0_call0_call0_v40 : Ref sig .tc := ⟨.hbm, 84, rfl⟩
abbrev main_call0_call0_call0_c_9 : Ref sig .tc := ⟨.hbm, 85, rfl⟩
abbrev main_call0_call0_call0_v41 : Ref sig .tc := ⟨.hbm, 86, rfl⟩
abbrev main_call0_call0_call0_v42 : Ref sig .tc := ⟨.hbm, 87, rfl⟩
abbrev main_call0_call0_call0_c_10 : Ref sig .tc := ⟨.hbm, 88, rfl⟩
abbrev main_call0_call0_call0_v43 : Ref sig .tc := ⟨.hbm, 89, rfl⟩
abbrev main_call0_call0_call0_v44 : Ref sig .tc := ⟨.hbm, 90, rfl⟩
abbrev main_call0_call0_call0_v45 : Ref sig .tc := ⟨.hbm, 91, rfl⟩
abbrev main_call0_call0_call0_v46 : Ref sig .tc := ⟨.hbm, 92, rfl⟩
abbrev main_call0_call0_call0_v47 : Ref sig .tc := ⟨.hbm, 93, rfl⟩
abbrev main_call0_call0_call0_c_11 : Ref sig .tc := ⟨.hbm, 94, rfl⟩
abbrev main_call0_call0_call0_v48 : Ref sig .tc := ⟨.hbm, 95, rfl⟩
abbrev main_call0_call0_call0_v49 : Ref sig .tc := ⟨.hbm, 96, rfl⟩
abbrev main_call0_call0_call0_c_12 : Ref sig .tc := ⟨.hbm, 97, rfl⟩
abbrev main_call0_call0_call0_v50 : Ref sig .tc := ⟨.hbm, 98, rfl⟩
abbrev main_call0_call0_call0_v51 : Ref sig .tc := ⟨.hbm, 99, rfl⟩
abbrev main_call0_call0_call0_v52 : Ref sig .tc := ⟨.hbm, 100, rfl⟩
abbrev main_call0_call0_call0_v53 : Ref sig .tc := ⟨.hbm, 101, rfl⟩
abbrev main_call0_call0_call0_v54 : Ref sig .tc := ⟨.hbm, 102, rfl⟩
abbrev main_call0_call0_call0_c_13 : Ref sig .tc := ⟨.hbm, 103, rfl⟩
abbrev main_call0_call0_call0_v55 : Ref sig .tc := ⟨.hbm, 104, rfl⟩
abbrev main_call0_call0_call0_v56 : Ref sig .tc := ⟨.hbm, 105, rfl⟩
abbrev main_call0_call0_call0_c_14 : Ref sig .tc := ⟨.hbm, 106, rfl⟩
abbrev main_call0_call0_call0_v57 : Ref sig .tc := ⟨.hbm, 107, rfl⟩
abbrev main_call0_call0_call0_v58 : Ref sig .tc := ⟨.hbm, 108, rfl⟩
abbrev main_call0_call0_call0_v59 : Ref sig .tc := ⟨.hbm, 109, rfl⟩
abbrev main_call0_call0_call0_v60 : Ref sig .tc := ⟨.hbm, 110, rfl⟩
abbrev main_call0_call0_call0_v61 : Ref sig .tc := ⟨.hbm, 111, rfl⟩
abbrev main_call0_call0_call0_c_15 : Ref sig .tc := ⟨.hbm, 112, rfl⟩
abbrev main_call0_call0_call0_v62 : Ref sig .tc := ⟨.hbm, 113, rfl⟩
abbrev main_call0_call0_call0_v63 : Ref sig .tc := ⟨.hbm, 114, rfl⟩
abbrev main_call0_call0_call0_c_16 : Ref sig .tc := ⟨.hbm, 115, rfl⟩
abbrev main_call0_call0_call0_v64 : Ref sig .tc := ⟨.hbm, 116, rfl⟩
abbrev main_call0_call0_call0_v65 : Ref sig .tc := ⟨.hbm, 117, rfl⟩
abbrev main_call0_call0_call0_v66 : Ref sig .tc := ⟨.hbm, 118, rfl⟩
abbrev main_call0_call0_call0_v67 : Ref sig .tc := ⟨.hbm, 119, rfl⟩
abbrev main_call0_call0_call0_v68 : Ref sig .tc := ⟨.hbm, 120, rfl⟩
abbrev main_call0_call0_call0_v69 : Ref sig .tc := ⟨.hbm, 121, rfl⟩
abbrev main_call0_call0_call0_v70 : Ref sig .tc := ⟨.hbm, 122, rfl⟩
abbrev main_call0_call0_call0_v71 : Ref sig .tc := ⟨.hbm, 123, rfl⟩
abbrev main_call0_call0_call0_c_17 : Ref sig .tc := ⟨.hbm, 124, rfl⟩
abbrev main_call0_call0_call0_v72 : Ref sig .tc := ⟨.hbm, 125, rfl⟩
abbrev main_call0_call0_call0_v73 : Ref sig .tc := ⟨.hbm, 126, rfl⟩
abbrev main_call0_call0_call0_v74 : Ref sig .tc := ⟨.hbm, 127, rfl⟩
abbrev main_call0_call0_call0_c_18 : Ref sig .tc := ⟨.hbm, 128, rfl⟩
abbrev main_call0_call0_call0_v75 : Ref sig .tc := ⟨.hbm, 129, rfl⟩
abbrev main_call0_call0_call0_v76 : Ref sig .tc := ⟨.hbm, 130, rfl⟩
abbrev main_call0_call0_call0_c_19 : Ref sig .tc := ⟨.hbm, 131, rfl⟩
abbrev main_call0_call0_call0_v77 : Ref sig .tc := ⟨.hbm, 132, rfl⟩
abbrev main_call0_call0_call0_v78 : Ref sig .tc := ⟨.hbm, 133, rfl⟩
abbrev main_call0_call0_call0_v79 : Ref sig .tc := ⟨.hbm, 134, rfl⟩
abbrev main_call0_call0_call0_v80 : Ref sig .tc := ⟨.hbm, 135, rfl⟩
abbrev main_call0_call0_call0_v81 : Ref sig .tc := ⟨.hbm, 136, rfl⟩
abbrev main_call0_call0_call0_c_20 : Ref sig .tc := ⟨.hbm, 137, rfl⟩
abbrev main_call0_call0_call0_v82 : Ref sig .tc := ⟨.hbm, 138, rfl⟩
abbrev main_call0_call0_call0_v83 : Ref sig .tc := ⟨.hbm, 139, rfl⟩
abbrev main_call0_call0_call0_c_21 : Ref sig .tc := ⟨.hbm, 140, rfl⟩
abbrev main_call0_call0_call0_v84 : Ref sig .tc := ⟨.hbm, 141, rfl⟩
abbrev main_call0_call0_call0_v85 : Ref sig .tc := ⟨.hbm, 142, rfl⟩
abbrev main_call0_call0_call0_v86 : Ref sig .tc := ⟨.hbm, 143, rfl⟩
abbrev main_call0_call0_call0_v87 : Ref sig .tc := ⟨.hbm, 144, rfl⟩
abbrev main_call0_call0_call0_v88 : Ref sig .tc := ⟨.hbm, 145, rfl⟩
abbrev main_call0_call0_call0_c_22 : Ref sig .tc := ⟨.hbm, 146, rfl⟩
abbrev main_call0_call0_call0_v89 : Ref sig .tc := ⟨.hbm, 147, rfl⟩
abbrev main_call0_call0_call0_v90 : Ref sig .tc := ⟨.hbm, 148, rfl⟩
abbrev main_call0_call0_call0_c_23 : Ref sig .tc := ⟨.hbm, 149, rfl⟩
abbrev main_call0_call0_call0_v91 : Ref sig .tc := ⟨.hbm, 150, rfl⟩
abbrev main_call0_call0_call0_v92 : Ref sig .tc := ⟨.hbm, 151, rfl⟩
abbrev main_call0_call0_call0_v93 : Ref sig .tc := ⟨.hbm, 152, rfl⟩
abbrev main_call0_call0_call0_v94 : Ref sig .tc := ⟨.hbm, 153, rfl⟩
abbrev main_call0_call0_call0_v95 : Ref sig .tc := ⟨.hbm, 154, rfl⟩
abbrev main_call0_call0_call0_c_24 : Ref sig .tc := ⟨.hbm, 155, rfl⟩
abbrev main_call0_call0_call0_v96 : Ref sig .tc := ⟨.hbm, 156, rfl⟩
abbrev main_call0_call0_call0_v97 : Ref sig .tc := ⟨.hbm, 157, rfl⟩
abbrev main_call0_call0_call0_c_25 : Ref sig .tc := ⟨.hbm, 158, rfl⟩
abbrev main_call0_call0_call0_v98 : Ref sig .tc := ⟨.hbm, 159, rfl⟩
abbrev main_call0_call0_call0_v99 : Ref sig .tc := ⟨.hbm, 160, rfl⟩
abbrev main_call0_call0_call0_v100 : Ref sig .tc := ⟨.hbm, 161, rfl⟩
abbrev main_call0_call0_call0_v101 : Ref sig .tc := ⟨.hbm, 162, rfl⟩
abbrev main_call0_call0_call0_v102 : Ref sig .tc := ⟨.hbm, 163, rfl⟩
abbrev main_call0_call0_call0_v103 : Ref sig .tc := ⟨.hbm, 164, rfl⟩
abbrev main_call0_call0_call0_v104 : Ref sig .tc := ⟨.hbm, 165, rfl⟩
abbrev main_call0_call0_call0_v105 : Ref sig .tc := ⟨.hbm, 166, rfl⟩
abbrev main_call0_call0_call0_c_26 : Ref sig .tc := ⟨.hbm, 167, rfl⟩
abbrev main_call0_call0_call0_v106 : Ref sig .tc := ⟨.hbm, 168, rfl⟩
abbrev main_call0_call0_call0_v107 : Ref sig .tc := ⟨.hbm, 169, rfl⟩
abbrev main_call0_call0_call0_v108 : Ref sig .tc := ⟨.hbm, 170, rfl⟩
abbrev main_call0_call0_call0_c_27 : Ref sig .tc := ⟨.hbm, 171, rfl⟩
abbrev main_call0_call0_call0_v109 : Ref sig .tc := ⟨.hbm, 172, rfl⟩
abbrev main_call0_call0_call0_v110 : Ref sig .tc := ⟨.hbm, 173, rfl⟩
abbrev main_call0_call0_call0_c_28 : Ref sig .tc := ⟨.hbm, 174, rfl⟩
abbrev main_call0_call0_call0_v111 : Ref sig .tc := ⟨.hbm, 175, rfl⟩
abbrev main_call0_call0_call0_v112 : Ref sig .tc := ⟨.hbm, 176, rfl⟩
abbrev main_call0_call0_call0_v113 : Ref sig .tc := ⟨.hbm, 177, rfl⟩
abbrev main_call0_call0_call0_v114 : Ref sig .tc := ⟨.hbm, 178, rfl⟩
abbrev main_call0_call0_call0_v115 : Ref sig .tc := ⟨.hbm, 179, rfl⟩
abbrev main_call0_call0_call0_c_29 : Ref sig .tc := ⟨.hbm, 180, rfl⟩
abbrev main_call0_call0_call0_v116 : Ref sig .tc := ⟨.hbm, 181, rfl⟩
abbrev main_call0_call0_call0_v117 : Ref sig .tc := ⟨.hbm, 182, rfl⟩
abbrev main_call0_call0_call0_c_30 : Ref sig .tc := ⟨.hbm, 183, rfl⟩
abbrev main_call0_call0_call0_v118 : Ref sig .tc := ⟨.hbm, 184, rfl⟩
abbrev main_call0_call0_call0_v119 : Ref sig .tc := ⟨.hbm, 185, rfl⟩
abbrev main_call0_call0_call0_v120 : Ref sig .tc := ⟨.hbm, 186, rfl⟩
abbrev main_call0_call0_call0_v121 : Ref sig .tc := ⟨.hbm, 187, rfl⟩
abbrev main_call0_call0_call0_v122 : Ref sig .tc := ⟨.hbm, 188, rfl⟩
abbrev main_call0_call0_call0_c_31 : Ref sig .tc := ⟨.hbm, 189, rfl⟩
abbrev main_call0_call0_call0_v123 : Ref sig .tc := ⟨.hbm, 190, rfl⟩
abbrev main_call0_call0_call0_v124 : Ref sig .tc := ⟨.hbm, 191, rfl⟩
abbrev main_call0_call0_call0_c_32 : Ref sig .tc := ⟨.hbm, 192, rfl⟩
abbrev main_call0_call0_call0_v125 : Ref sig .tc := ⟨.hbm, 193, rfl⟩
abbrev main_call0_call0_call0_v126 : Ref sig .tc := ⟨.hbm, 194, rfl⟩
abbrev main_call0_call0_call0_v127 : Ref sig .tc := ⟨.hbm, 195, rfl⟩
abbrev main_call0_call0_call0_v128 : Ref sig .tc := ⟨.hbm, 196, rfl⟩
abbrev main_call0_call0_call0_v129 : Ref sig .tc := ⟨.hbm, 197, rfl⟩
abbrev main_call0_call0_call0_c_33 : Ref sig .tc := ⟨.hbm, 198, rfl⟩
abbrev main_call0_call0_call0_v130 : Ref sig .tc := ⟨.hbm, 199, rfl⟩
abbrev main_call0_call0_call0_v131 : Ref sig .tc := ⟨.hbm, 200, rfl⟩
abbrev main_call0_call0_call0_c_34 : Ref sig .tc := ⟨.hbm, 201, rfl⟩
abbrev main_call0_call0_call0_v132 : Ref sig .tc := ⟨.hbm, 202, rfl⟩
abbrev main_call0_call0_call0_v133 : Ref sig .tc := ⟨.hbm, 203, rfl⟩
abbrev main_call0_call0_call0_v134 : Ref sig .tc := ⟨.hbm, 204, rfl⟩
abbrev main_call0_call0_call0_v135 : Ref sig .tc := ⟨.hbm, 205, rfl⟩
abbrev main_call0_call0_call0_v136 : Ref sig .tc := ⟨.hbm, 206, rfl⟩
abbrev main_call0_call0_call0_v137 : Ref sig .tc := ⟨.hbm, 207, rfl⟩
abbrev main_call0_call0_call0_v138 : Ref sig .tc := ⟨.hbm, 208, rfl⟩
abbrev main_call0_call0_call0_v139 : Ref sig .tc := ⟨.hbm, 209, rfl⟩
abbrev main_call0_call0_call0_c_35 : Ref sig .tc := ⟨.hbm, 210, rfl⟩
abbrev main_call0_call0_call0_v140 : Ref sig .tc := ⟨.hbm, 211, rfl⟩
abbrev main_call0_call0_call0_v141 : Ref sig .tc := ⟨.hbm, 212, rfl⟩
abbrev main_call0_call0_call0_v142 : Ref sig .tc := ⟨.hbm, 213, rfl⟩
abbrev main_call0_call0_call0_c_36 : Ref sig .tc := ⟨.hbm, 214, rfl⟩
abbrev main_call0_call0_call0_v143 : Ref sig .tc := ⟨.hbm, 215, rfl⟩
abbrev main_call0_call0_call0_v144 : Ref sig .tc := ⟨.hbm, 216, rfl⟩
abbrev main_call0_call0_call0_c_37 : Ref sig .tc := ⟨.hbm, 217, rfl⟩
abbrev main_call0_call0_call0_v145 : Ref sig .tc := ⟨.hbm, 218, rfl⟩
abbrev main_call0_call0_call0_v146 : Ref sig .tc := ⟨.hbm, 219, rfl⟩
abbrev main_call0_call0_call0_v147 : Ref sig .tc := ⟨.hbm, 220, rfl⟩
abbrev main_call0_call0_call0_v148 : Ref sig .tc := ⟨.hbm, 221, rfl⟩
abbrev main_call0_call0_call0_v149 : Ref sig .tc := ⟨.hbm, 222, rfl⟩
abbrev main_call0_call0_call0_c_38 : Ref sig .tc := ⟨.hbm, 223, rfl⟩
abbrev main_call0_call0_call0_v150 : Ref sig .tc := ⟨.hbm, 224, rfl⟩
abbrev main_call0_call0_call0_v151 : Ref sig .tc := ⟨.hbm, 225, rfl⟩
abbrev main_call0_call0_call0_c_39 : Ref sig .tc := ⟨.hbm, 226, rfl⟩
abbrev main_call0_call0_call0_v152 : Ref sig .tc := ⟨.hbm, 227, rfl⟩
abbrev main_call0_call0_call0_v153 : Ref sig .tc := ⟨.hbm, 228, rfl⟩
abbrev main_call0_call0_call0_v154 : Ref sig .tc := ⟨.hbm, 229, rfl⟩
abbrev main_call0_call0_call0_v155 : Ref sig .tc := ⟨.hbm, 230, rfl⟩
abbrev main_call0_call0_call0_v156 : Ref sig .tc := ⟨.hbm, 231, rfl⟩
abbrev main_call0_call0_call0_c_40 : Ref sig .tc := ⟨.hbm, 232, rfl⟩
abbrev main_call0_call0_call0_v157 : Ref sig .tc := ⟨.hbm, 233, rfl⟩
abbrev main_call0_call0_call0_v158 : Ref sig .tc := ⟨.hbm, 234, rfl⟩
abbrev main_call0_call0_call0_c_41 : Ref sig .tc := ⟨.hbm, 235, rfl⟩
abbrev main_call0_call0_call0_v159 : Ref sig .tc := ⟨.hbm, 236, rfl⟩
abbrev main_call0_call0_call0_v160 : Ref sig .tc := ⟨.hbm, 237, rfl⟩
abbrev main_call0_call0_call0_v161 : Ref sig .tc := ⟨.hbm, 238, rfl⟩
abbrev main_call0_call0_call0_v162 : Ref sig .tc := ⟨.hbm, 239, rfl⟩
abbrev main_call0_call0_call0_v163 : Ref sig .tc := ⟨.hbm, 240, rfl⟩
abbrev main_call0_call0_call0_c_42 : Ref sig .tc := ⟨.hbm, 241, rfl⟩
abbrev main_call0_call0_call0_v164 : Ref sig .tc := ⟨.hbm, 242, rfl⟩
abbrev main_call0_call0_call0_v165 : Ref sig .tc := ⟨.hbm, 243, rfl⟩
abbrev main_call0_call0_call0_c_43 : Ref sig .tc := ⟨.hbm, 244, rfl⟩
abbrev main_call0_call0_call0_v166 : Ref sig .tc := ⟨.hbm, 245, rfl⟩
abbrev main_call0_call0_call0_v167 : Ref sig .tc := ⟨.hbm, 246, rfl⟩
abbrev main_call0_call0_call0_v168 : Ref sig .tc := ⟨.hbm, 247, rfl⟩
abbrev main_call0_call0_call0_v169 : Ref sig .tc := ⟨.hbm, 248, rfl⟩
abbrev main_call0_call0_call0_v170 : Ref sig .tc := ⟨.hbm, 249, rfl⟩
abbrev main_call0_call0_v18_0 : Ref sig .tc := ⟨.hbm, 250, rfl⟩
abbrev main_call0_call0_call0_v172 : Ref sig .tc := ⟨.hbm, 251, rfl⟩
abbrev main_call0_call0_call0_v173 : Ref sig .tc := ⟨.hbm, 252, rfl⟩
abbrev main_call0_call0_call0_c_44 : Ref sig .tc := ⟨.hbm, 253, rfl⟩
abbrev main_call0_call0_call0_v174 : Ref sig .tc := ⟨.hbm, 254, rfl⟩
abbrev main_call0_call0_v18_1 : Ref sig .tc := ⟨.hbm, 255, rfl⟩
abbrev main_call0_call0_v19 : Ref sig .tc := ⟨.hbm, 256, rfl⟩
abbrev main_call0_call0_c_2 : Ref sig .tc := ⟨.hbm, 257, rfl⟩
abbrev main_call0_call0_v20 : Ref sig .tc := ⟨.hbm, 258, rfl⟩
abbrev main_call0_call0_v21 : Ref sig .tc := ⟨.hbm, 259, rfl⟩
abbrev main_call0_call0_c_3 : Ref sig .tc := ⟨.hbm, 260, rfl⟩
abbrev main_call0_call0_v22 : Ref sig .tc := ⟨.hbm, 261, rfl⟩
abbrev main_call0_call0_v23 : Ref sig .tc := ⟨.hbm, 262, rfl⟩
abbrev main_call0_call0_v24 : Ref sig .tc := ⟨.hbm, 263, rfl⟩
abbrev main_call0_call0_cst : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_call0_v30 : Ref sig .tc := ⟨.hbm, 270, rfl⟩
abbrev main_call0_call0_v31 : Ref sig .tc := ⟨.hbm, 271, rfl⟩
abbrev main_call0_call0_v32 : Ref sig .tc := ⟨.hbm, 272, rfl⟩
abbrev main_call0_v0 : Ref sig .tc := ⟨.hbm, 273, rfl⟩
abbrev main_call0_v1 : Ref sig .tc := ⟨.hbm, 274, rfl⟩
abbrev main_call0_v2 : Ref sig .tc := ⟨.hbm, 275, rfl⟩
abbrev main_call0_v3 : Ref sig .tc := ⟨.hbm, 276, rfl⟩
abbrev main_v7 : Ref sig .tc := ⟨.hbm, 277, rfl⟩
abbrev main_v8 : Ref sig .tc := ⟨.hbm, 278, rfl⟩
abbrev main_call1_v0 : Ref sig .tc := ⟨.hbm, 279, rfl⟩
abbrev main_call1_cst : Ref sig .tc := ⟨.hbm, 280, rfl⟩
abbrev main_call1_c : Ref sig .tc := ⟨.hbm, 281, rfl⟩
abbrev main_call1_v1_0 : Ref sig .tc := ⟨.hbm, 282, rfl⟩
abbrev main_v9 : Ref sig .tc := ⟨.hbm, 283, rfl⟩

abbrev nD : Nat := 1
abbrev τ : Topo := Topo.v7x

variable {F : FTy → Type} [FloatOps F]
-- ==== Proof.KBody.lean ====
/-
  The kernel body at one grid point, as a step on its two scratch buffers: what a run of `cc0__sample_kernel` makes of the
  running maximum, the running index and, at the last column block, the result's staging buffer.
-/
module

public import proofs.«01_k».proof.Proof.Gen.KernelIdeal.Frame
public import proofs.«01_k».proof.Proof.Gen.KernelIdeal.Skeleton
public import Idealize.ShloMosaic.Lib.Pipeline.FrameSuffix
public import Idealize.ShloMosaic.Lib.Tactic

@[expose] public section

noncomputable section

namespace Cert.GumbelK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-! ## The values of one point -/

/-- The column numbers inside a block, 0 to 2047, along the lanes. -/
def laneIdx : IVec S64x2048 32 := iota .tc S64x2048 32 [1] iota_S64x2048_d1_w32

/-- The first column of point `i`'s block. -/
def colBase (i : grid0.Coords) : BitVec 32 := Scalar.muli (BitVec.ofNat 32 (i 1).val) 2048#32

/-- The two words of the cipher's state after its second group of rounds at point `i`. -/
def mixA (i : grid0.Coords) : IVec S64x2048 32 := k0_pay25 (k0_pay14 i) (k0_pay15 i)
/-- The second word there. -/
def mixB (i : grid0.Coords) : IVec S64x2048 32 := k0_pay26 (k0_pay14 i) (k0_pay15 i)

/-- The sum word of the cipher's last round at point `i`. -/
def lastSum (i : grid0.Coords) : IVec S64x2048 32 :=
  k0_pay50 (k0_pay36 (mixA i) (mixB i)) (k0_pay37 (mixA i) (mixB i)) (k0_pay38 (mixA i) (mixB i)) k0_pay39
/-- The other word of the cipher's last round at point `i`. -/
def lastXor (i : grid0.Coords) : IVec S64x2048 32 :=
  k0_pay51 (k0_pay36 (mixA i) (mixB i)) (k0_pay37 (mixA i) (mixB i)) (k0_pay38 (mixA i) (mixB i)) k0_pay39

/-- The masked scores of point `i`'s block `X` of logits. -/
def blkScore (i : grid0.Coords) (X : Vec F S64x2048 .f32) : FVec F S64x2048 .f32 :=
  k0_pay53 (colBase i) laneIdx (lastSum i) (lastXor i) X
/-- Each row's maximum over the block. -/
def blkMax (i : grid0.Coords) (X : Vec F S64x2048 .f32) : FVec F S64x1 .f32 :=
  k0_pay54 (colBase i) laneIdx (lastSum i) (lastXor i) X
/-- Each row's least column of the block that attains the block's maximum. -/
def blkIdx (i : grid0.Coords) (X : Vec F S64x2048 .f32) : IVec S64x1 32 :=
  k0_pay55 (colBase i) laneIdx (lastSum i) (lastXor i) X

/-- The test of the kernel for the first column block. -/
def atFirst (i : grid0.Coords) : BitVec 1 :=
  Scalar.cmpi .ne (Scalar.extui (Scalar.cmpi .eq (BitVec.ofNat 32 (i 1).val) 0#32) : BitVec 32) 0#32

/-- The running maximum the body works from: reset at the first column block. -/
def baseMax (i : grid0.Coords) (M : Vec F S64x1 .f32) : Vec F S64x1 .f32 := if atFirst i = 1#1 then k0_pay1 else M
/-- The running index the body works from: reset at the first column block. -/
def baseIdx (i : grid0.Coords) (I : IVec S64x1 32) : IVec S64x1 32 := if atFirst i = 1#1 then k0_pay2 else I

/-- The running maximum after the body at point `i` on block `X`. -/
def newMax (i : grid0.Coords) (X : Vec F S64x2048 .f32) (M : Vec F S64x1 .f32) : Vec F S64x1 .f32 :=
  k0_pay5 (blkMax i X) (baseMax i M) (baseMax i M)
/-- The running index after the body at point `i` on block `X`. -/
def newIdx (i : grid0.Coords) (X : Vec F S64x2048 .f32) (M : Vec F S64x1 .f32) (I : IVec S64x1 32) : IVec S64x1 32 :=
  k0_pay4 (blkMax i X) (blkIdx i X) (baseMax i M) (baseIdx i I)

/-- The kernel's variants: none. -/
abbrev 𝒱₀ : Variants := Variants.none

section Parts
variable (i : grid0.Coords) (a2 : Memref sig .tc .vmem S64x2048 .f32) (h2 : a2.IsWhole) (a3 : Memref sig .tc .vmem S64x1 .i32) (h3 : a3.IsWhole) (a4 : Memref sig .tc .vmem S64x1 .f32) (h4 : a4.IsWhole) (a5 : Memref sig .tc .vmem S64x1 .i32) (h5 : a5.IsWhole)

/-- What the body's first sixty statements compute, by name. -/
theorem part1_eq : k0_part1 (F := F) i a2 h2 a3 h3 a4 h4 a5 h5
    = pure ⟨BitVec.ofNat 32 (i 1).val, colBase i, laneIdx, k0_pay14 i, k0_pay15 i⟩ := rfl
/-- What the next sixty compute. -/
theorem part2_eq : k0_part2 (F := F) i a2 h2 a3 h3 a4 h4 a5 h5 (k0_pay14 i) (k0_pay15 i) = pure ⟨mixA i, mixB i⟩ := rfl
/-- What the next sixty compute. -/
theorem part3_eq : k0_part3 (F := F) i a2 h2 a3 h3 a4 h4 a5 h5 (mixA i) (mixB i)
    = pure ⟨k0_pay36 (mixA i) (mixB i), k0_pay37 (mixA i) (mixB i), k0_pay38 (mixA i) (mixB i), k0_pay39⟩ := rfl
/-- What the next sixty compute. -/
theorem part4_eq : k0_part4 (F := F) i a2 h2 a3 h3 a4 h4 a5 h5 (k0_pay36 (mixA i) (mixB i)) (k0_pay37 (mixA i) (mixB i))
      (k0_pay38 (mixA i) (mixB i)) k0_pay39 = pure ⟨lastSum i, lastXor i⟩ := rfl
/-- What the rest of the straight line computes: it loads the block of logits, then the block's two results. -/
theorem part5_eq : k0_part5 (F := F) i a2 h2 a3 h3 a4 h4 a5 h5 (colBase i) laneIdx (lastSum i) (lastXor i)
    = (do
        let X : Vec F S64x2048 .f32 ← Prog.lift (.load a2 (Rect.unit (s := S64x2048) ![0, 0] S64x2048.size inb_S64x2048_S64x2048_0_0).toLoadRect (View.loadsAt_vmem h_S64x2048))
        pure ⟨blkMax i X, blkIdx i X, 0#32⟩) := rfl
end Parts

attribute [local irreducible] blkMax blkIdx k0_pay1 k0_pay2 k0_pay4 k0_pay5 in
set_option maxHeartbeats 1000000 in
/-- The kernel body on staging buffers `s0` of the logits' window and `s1` of the result's: the logits' block stays, the
    two scratch buffers take one step, and the result's buffer takes the new index at the last column block. -/
theorem sound_body (c : Dev nD) (E : Set ℕ) (i : grid0.Coords) (s0 : Fin 2) (s1 : Fin 2)
    (X : Vec F S64x2048 .f32) (Y : IVec S64x1 32) (M : Vec F S64x1 .f32) (I : IVec S64x1 32) (K : PUnit → sProp 𝕄) :
    iprop((owns (c : Thread nD τ) (stage0_0 s0) fullShare X ∗ owns (c : Thread nD τ) (stage0_1 s1) fullShare Y
            ∗ ((c : Thread nD τ).loc cc0_scratch0 ↦{fullShare} (M : Buf (Elt F) ((c : Thread nD τ).loc cc0_scratch0)))
            ∗ ((c : Thread nD τ).loc cc0_scratch1 ↦{fullShare} (I : Buf (Elt F) ((c : Thread nD τ).loc cc0_scratch1))))
          ∗ (iprop(owns (c : Thread nD τ) (stage0_0 s0) fullShare X
              ∗ owns (c : Thread nD τ) (stage0_1 s1) fullShare (if k0_cond2 i = 1#1 then newIdx i X M I else Y)
              ∗ ((c : Thread nD τ).loc cc0_scratch0 ↦{fullShare} (newMax i X M : Buf (Elt F) ((c : Thread nD τ).loc cc0_scratch0)))
              ∗ ((c : Thread nD τ).loc cc0_scratch1 ↦{fullShare} (newIdx i X M I : Buf (Elt F) ((c : Thread nD τ).loc cc0_scratch1)))) -∗ K ⟨⟩))
      ⊢ wp frame (wpE (defs₀ (F := F)) 𝒱₀ c none) E
          (cc0__sample_kernel i (stage0_0 s0) (hstage0_0 s0) (stage0_1 s1) (hstage0_1 s1) (Memref.whole cc0_scratch0)
            (Memref.isWhole_whole _) (Memref.whole cc0_scratch1) (Memref.isWhole_whole _)) K := by
  have hz : (![0, 0] : Fin 2 → Nat) = fun _ => 0 := funext fun a => by fin_cases a <;> rfl
  have hra : (Memref.whole cc0_stg0_0 : Memref sig .tc _ _ _).view.readAt (Elt F) (Rect.unit (s := S64x2048) ![0, 0] S64x2048.size
      inb_S64x2048_S64x2048_0_0).toLoadRect = id := funext (Memref.readAt_unit_zero (Elt F) cc0_stg0_0 hz _)
  have hrb : (Memref.whole cc0_stg0_1 : Memref sig .tc _ _ _).view.readAt (Elt F) (Rect.unit (s := S64x2048) ![0, 0] S64x2048.size
      inb_S64x2048_S64x2048_0_0).toLoadRect = id := funext (Memref.readAt_unit_zero (Elt F) cc0_stg0_1 hz _)
  have hr0 : (Memref.whole cc0_scratch0 : Memref sig .tc _ _ _).view.readAt (Elt F) (Rect.unit (s := S64x1) ![0, 0] S64x1.size
      inb_S64x1_S64x1_0_0).toLoadRect = id := funext (Memref.readAt_unit_zero (Elt F) cc0_scratch0 hz _)
  have hr1 : (Memref.whole cc0_scratch1 : Memref sig .tc _ _ _).view.readAt (Elt F) (Rect.unit (s := S64x1) ![0, 0] S64x1.size
      inb_S64x1_S64x1_0_0).toLoadRect = id := funext (Memref.readAt_unit_zero (Elt F) cc0_scratch1 hz _)
  have hw0 : ∀ f w, (((Memref.whole cc0_scratch0).access (Rect.unit (s := S64x1) ![0, 0] S64x1.size inb_S64x1_S64x1_0_0)) :
      View sig .tc _ _ _).write (Elt F) f w Finset.univ = w := Memref.write_access_unit_zero_univ (Elt F) cc0_scratch0 hz _
  have hw1 : ∀ f w, (((Memref.whole cc0_scratch1).access (Rect.unit (s := S64x1) ![0, 0] S64x1.size inb_S64x1_S64x1_0_0)) :
      View sig .tc _ _ _).write (Elt F) f w Finset.univ = w := Memref.write_access_unit_zero_univ (Elt F) cc0_scratch1 hz _
  have hwa : ∀ f w, (((Memref.whole cc0_stg1_0).access (Rect.unit (s := S64x1) ![0, 0] S64x1.size inb_S64x1_S64x1_0_0)) :
      View sig .tc _ _ _).write (Elt F) f w Finset.univ = w := Memref.write_access_unit_zero_univ (Elt F) cc0_stg1_0 hz _
  have hwb : ∀ f w, (((Memref.whole cc0_stg1_1).access (Rect.unit (s := S64x1) ![0, 0] S64x1.size inb_S64x1_S64x1_0_0)) :
      View sig .tc _ _ _).write (Elt F) f w Finset.univ = w := Memref.write_access_unit_zero_univ (Elt F) cc0_stg1_1 hz _
  have hs0 : ∀ f w L, (View.whole cc0_scratch0 : View sig .tc _ _ _).writes (Elt F) f (⟨Rect.unit (s := S64x1) ![0, 0] S64x1.size inb_S64x1_S64x1_0_0, w⟩ :: L) = w :=
    fun f w L => hw0 _ w
  have hs1 : ∀ f w L, (View.whole cc0_scratch1 : View sig .tc _ _ _).writes (Elt F) f (⟨Rect.unit (s := S64x1) ![0, 0] S64x1.size inb_S64x1_S64x1_0_0, w⟩ :: L) = w :=
    fun f w L => hw1 _ w
  simp only [cc0__sample_kernel_eq_skeleton]; unfold cc0__sample_kernel_skel
  unfold newMax newIdx baseMax baseIdx atFirst
  by_cases h1 : Scalar.cmpi .ne (Scalar.extui (Scalar.cmpi .eq (BitVec.ofNat 32 (i 1).val) 0#32) : BitVec 32) 0#32 = 1#1 <;>
  by_cases h2 : k0_cond2 i = 1#1 <;> fin_cases s0 <;> fin_cases s1 <;>
  · simp only [owns_whole_eq, Prog.lift, Prog.bind_op, Prog.bind_ret, pure_bind, h1, h2, ↓reduceDIte, ↓reduceIte, part1_eq, part2_eq, part3_eq, part4_eq, part5_eq]
    iintro ⟨⟨⟨%f0, %hf0, H0⟩, ⟨%f1, %hf1, H1⟩, HM, HI⟩, Hk⟩
    sl_steps
    iapply Hk
    simp only [hra, hrb, hr0, hr1, hw0, hw1, hwa, hwb, hs0, hs1, id]
    subst hf0
    subst hf1
    isplitl [H0]
    · iexists _; isplitr
      · ipureintro; rfl
      · iexact H0
    isplitl [H1]
    · iexists _; isplitr
      · ipureintro; rfl
      · iexact H1
    isplitl [HM]
    · iexact HM
    · iexact HI

end Cert.GumbelK

end
-- ==== Proof.KRun.lean ====
/-
  The run of the whole kernel: the proof data (the two scratch buffers' contents point by point), the body obligation and
  the launch. Everything here holds for any float values.
-/
module

public import proofs.«01_k».proof.Proof.KBody
public import Idealize.ShloMosaic.Lib.Pipeline.Value
public import Idealize.ShloMosaic.Lib.WordCmp

@[expose] public section

noncomputable section

namespace Cert.GumbelK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-! ## The grid's points -/

/-- The grid has 98 points, -/
theorem lt98 (t : Fin cfg0.N) : t.val < 98 := by
  have h : cfg0.N = 98 := N_0
  have := t.isLt
  omega
/-- and point `t` is row block `t / 49`, -/
theorem coords_0 (t : Fin cfg0.N) : (grid0.coords t 0).val = t.val / 49 := by
  have h := Pipeline.Grid.coords_val (G := grid0) t 0 (S := 49) (B := 2) (by decide) rfl
  have := lt98 t
  omega
/-- column block `t % 49`. -/
theorem coords_1 (t : Fin cfg0.N) : (grid0.coords t 1).val = t.val % 49 := by
  have h := Pipeline.Grid.coords_val (G := grid0) t 1 (S := 1) (B := 49) (by decide) rfl
  have := lt98 t
  omega

/-- Widening a comparison's bit and testing it against zero gives the bit back. -/
theorem bit_test (b : Bool) : (IntOp.cmpi .ne (Scalar.extui (BitVec.ofBool b) : BitVec 32) 0#32 = 1#1) ↔ b = true := by
  cases b <;> decide

/-- The kernel's first test holds at the first column block only, -/
theorem atFirst_iff (t : Fin cfg0.N) : atFirst (grid0.coords t) = 1#1 ↔ t.val % 49 = 0 := by
  have h := coords_1 t
  have hlt := lt98 t
  unfold atFirst
  rw [h, show Scalar.cmpi .eq (BitVec.ofNat 32 (t.val % 49)) 0#32 = BitVec.ofBool (decide (t.val % 49 = 0)) from
    by
      show IntOp.cmpi .eq _ _ = _
      rw [WordCmp.cmpi_eq_eq]
      congr 1
      exact decide_eq_decide.mpr (WordCmp.ofNat_eq_ofNat_iff (by omega) (by omega))]
  exact (bit_test _).trans decide_eq_true_iff
/-- its second at the last column block only. -/
theorem atLast_iff (t : Fin cfg0.N) : k0_cond2 (grid0.coords t) = 1#1 ↔ t.val % 49 = 48 := by
  have h := coords_1 t
  have hlt := lt98 t
  unfold k0_cond2
  dsimp only
  rw [h, show Scalar.cmpi .eq (BitVec.ofNat 32 (t.val % 49)) 48#32 = BitVec.ofBool (decide (t.val % 49 = 48)) from
    by
      show IntOp.cmpi .eq _ _ = _
      rw [WordCmp.cmpi_eq_eq]
      congr 1
      exact decide_eq_decide.mpr (WordCmp.ofNat_eq_ofNat_iff (by omega) (by omega))]
  exact (bit_test _).trans decide_eq_true_iff

/-! ## What a block reads past the array's end does not matter -/

/-- The column that lane `j` of point `i`'s block stands for. -/
theorem col_eq (i : grid0.Coords) (j : S64x2048.Idx) :
    k0_pay52 (colBase i) laneIdx j = BitVec.ofNat 32 ((i 1).val * 2048 + (j 1).val) := by
  show IntOp.addi (IntOp.muli (BitVec.ofNat 32 (i 1).val) 2048#32) (iota .tc S64x2048 32 [1] iota_S64x2048_d1_w32 j) = _
  rw [iota_single_apply]
  show BitVec.ofNat 32 (i 1).val * BitVec.ofNat 32 2048 + BitVec.ofNat 32 (j 1).val = _
  rw [← BitVec.ofNat_mul, ← BitVec.ofNat_add]

/-- The perturbation the kernel adds to a logit: minus the logarithm of minus the logarithm of a uniform sample. -/
def blkNoise (i : grid0.Coords) : FVec F S64x2048 .f32 :=
  let v188 : IVec S64x2048 32 := shrui (xori (lastXor i) (addi (addi (lastSum i) (broadcast S64x2048 0#32)) (broadcast S64x2048 5#32))) (broadcast S64x2048 9#32)
  let v190 : FVec F S64x2048 .f32 := bitcastToFloat .f32 (ori v188 (broadcast S64x2048 1065353216#32))
  let v192 := subf v190 (broadcast S64x2048 (Scalar.ofBits .f32 0x3F800000#32))
  let v195 := mulf v192 (broadcast S64x2048 (Scalar.subf (Scalar.ofBits .f32 0x3F800000#32) (Scalar.ofBits .f32 0x00800000#32)))
  let v197 := addf v195 (broadcast S64x2048 (Scalar.ofBits .f32 0x00800000#32))
  let v198 := maximumf (broadcast S64x2048 (Scalar.ofBits .f32 0x00800000#32)) v197
  let v201 := subf (broadcast S64x2048 (Scalar.ofBits .f32 0x00000000#32)) (log v198)
  subf (broadcast S64x2048 (Scalar.ofBits .f32 0x00000000#32)) (log v201)

/-- A block's masked scores are the perturbation plus the logit inside the array, and minus infinity past its end. -/
theorem blkScore_apply (i : grid0.Coords) (X : Vec F S64x2048 .f32) (j : S64x2048.Idx) :
    blkScore i X j = if (i 1).val * 2048 + (j 1).val < 100000 then FloatOps.addf (blkNoise i j) (X j) else Scalar.ofBits .f32 0xFF800000#32 := by
  have h : blkScore i X j = Scalar.select (IntOp.cmpi .slt (k0_pay52 (colBase i) laneIdx j) 100000#32)
      (FloatOps.addf (blkNoise i j) (X j)) (Scalar.ofBits .f32 0xFF800000#32) := rfl
  have hi : (i 1).val < 49 := (i 1).isLt
  have hj : (j 1).val < 2048 := (j 1).isLt
  rw [h, col_eq, WordCmp.cmpi_slt_ofNat (by omega) (by omega)]
  by_cases hc : (i 1).val * 2048 + (j 1).val < 100000 <;> simp [Scalar.select, hc]

/-- The row block a window's index map gives, -/
theorem transform_0 (i : grid0.Coords) : cc0_transform_0 i 0 = (i 0).val := by
  have h0 : (i 0).val < 2 := (i 0).isLt
  show (BitVec.ofNat 32 (i 0).val).toNat = _
  rw [WordCmp.toNat_ofNat_of_lt (by omega)]
/-- and the column block. -/
theorem transform_1 (i : grid0.Coords) : cc0_transform_0 i 1 = (i 1).val := by
  have h1 : (i 1).val < 49 := (i 1).isLt
  show (BitVec.ofNat 32 (i 1).val).toNat = _
  rw [WordCmp.toNat_ofNat_of_lt (by omega)]

/-- The block's lanes inside the array are the ones the transfer fills. -/
theorem moved_of_lt (i : grid0.Coords) (j : S64x2048.Idx) (hc : (i 1).val * 2048 + (j 1).val < 100000) : win0_0.moved i j = true := by
  rw [Window.moved_iff]
  intro a
  have h0 : (i 0).val < 2 := (i 0).isLt
  have hj0 : (j 0).val < 64 := (j 0).isLt
  have hj1 : (j 1).val < 2048 := (j 1).isLt
  fin_cases a
  · show (j 0).val < (Pipeline.Clip.of (cc0_transform_0 i 0) 64 128).extent 64
    rw [transform_0]
    unfold Pipeline.Clip.of
    rw [if_pos (by omega)]
    exact hj0
  · show (j 1).val < (Pipeline.Clip.of (cc0_transform_0 i 1) 2048 100000).extent 2048
    rw [transform_1]
    unfold Pipeline.Clip.of
    split
    · exact hj1
    · show (j 1).val < 100000 - (i 1).val * 2048
      omega

/-- A block's scores are the same whatever the staging buffer holds past the array's end. -/
theorem blkScore_fill (i : grid0.Coords) (d d' : S64x2048.Idx → Elt F .f32) (g : (win0_0.xblock i).Idx → Elt F .f32) :
    blkScore i (win0_0.fill i d g) = blkScore i (win0_0.fill i d' g) := by
  funext j
  rw [blkScore_apply, blkScore_apply]
  by_cases hc : (i 1).val * 2048 + (j 1).val < 100000
  · have hm := moved_of_lt i j hc
    unfold Window.fill
    rw [dif_pos hm, dif_pos hm]
  · rw [if_neg hc, if_neg hc]

/-- The block's maximum is a function of its scores, -/
theorem blkMax_congr {i : grid0.Coords} {X Y : Vec F S64x2048 .f32} (h : blkScore i X = blkScore i Y) : blkMax i X = blkMax i Y := by
  have e : ∀ Z : Vec F S64x2048 .f32, blkMax i Z = shapeCast S64x1 (multiReduction .maximumf [1] S64 (blkScore i Z) 0xFF800000#32 reduces_S64x2048_S64 (.inl rfl) rfl) shapeCasts_S64_S64x1 := fun _ => rfl
  rw [e, e, h]
/-- and so is its least maximizing column. -/
theorem blkIdx_congr {i : grid0.Coords} {X Y : Vec F S64x2048 .f32} (h : blkScore i X = blkScore i Y) : blkIdx i X = blkIdx i Y := by
  have e : ∀ Z : Vec F S64x2048 .f32, blkIdx i Z = shapeCast S64x1 (multiReductionI .minsi [1] S64
      (select (cmpf .oeq (blkScore i Z) (broadcastTo S64x2048 (blkMax i Z) broadcasts_S64x1_S64x2048)) (k0_pay52 (colBase i) laneIdx) (broadcast S64x2048 2147483647#32))
      2147483647#32 reduces_S64x2048_S64 rfl) shapeCasts_S64_S64x1 := fun _ => rfl
  rw [e, e, h, blkMax_congr h]

variable (m : (ℓ : Loc nD τ sig) → Buf (Elt F) ℓ) (ρ : Dev nD → PrngReg)

/-! ## The proof data -/

/-- Point `t`'s block of logits, zero past the array's end. -/
def blk (c : Dev nD) (t : Fin cfg0.N) : Vec F S64x2048 .f32 :=
  win0_0.fill (grid0.coords t) (fun _ => Scalar.ofBits .f32 0#32) (iblk m c 0 t)

/-- The running maximum and index before point `n`: one step of the body per point. -/
def acc (c : Dev nD) : ℕ → Vec F S64x1 .f32 × IVec S64x1 32
  | 0 => (k0_pay1, k0_pay2)
  | n + 1 =>
    if h : n < cfg0.N then
      (newMax (grid0.coords ⟨n, h⟩) (blk m c ⟨n, h⟩) (acc c n).1,
        newIdx (grid0.coords ⟨n, h⟩) (blk m c ⟨n, h⟩) (acc c n).1 (acc c n).2)
    else acc c n

/-- One step of it. -/
theorem acc_succ (c : Dev nD) (t : Fin cfg0.N) :
    acc m c (t.val + 1) = (newMax (grid0.coords t) (blk m c t) (acc m c t.val).1,
      newIdx (grid0.coords t) (blk m c t) (acc m c t.val).1 (acc m c t.val).2) := by
  rw [acc, dif_pos t.isLt]

/-- What the two scratch buffers hold before point `n`: the running pair, except that nothing is said where a row block
    begins, since the body resets them there. -/
def PhiS (c : Dev nD) (n : ℕ) : sProp 𝕄 :=
  iprop(∃ (M : Vec F S64x1 .f32) (I : IVec S64x1 32), ⌜n % 49 ≠ 0 → M = (acc m c n).1 ∧ I = (acc m c n).2⌝
    ∗ ((c : Thread nD τ).loc cc0_scratch0 ↦{fullShare} (M : Buf (Elt F) ((c : Thread nD τ).loc cc0_scratch0)))
    ∗ ((c : Thread nD τ).loc cc0_scratch1 ↦{fullShare} (I : Buf (Elt F) ((c : Thread nD τ).loc cc0_scratch1)))
    ∗ ∃ r, prngReg c r)

/-- The proof data of the one pipeline on device `c`: the arrays as launched; after the body the logits' buffer at its
    block and the result's at the running index; the scratch buffers at the running pair; nothing owed. -/
def dats (_ : Fin 1) (c : Dev nD) : Dat τ (Elt F) Unit ℕ (UR sig nD τ) ℕ cfg0 c where
  A w := V m c (Pipeline.arrRef spec0 w)
  after w t := match w with
    | ⟨0, _⟩ => blk m c t
    | ⟨1, _⟩ => (acc m c (t.val + 1)).2
  Φ t := PhiS m c t.val
  q _ := fullShare
  owed _ := 0

/-- The logits' buffer arrives just fetched: its block inside the array, anything past its end. -/
theorem before_0 (c : Dev nD) (t : Fin cfg0.N) (d) :
    (dats m 0 c).before (0 : Fin 2) t d = win0_0.fill (grid0.coords t) d (iblk m c 0 t) := by
  unfold Dat.before; rw [if_pos (fetch0_0 t)]; rfl

/-- A step from the running pair, or from anything where a row block begins, on a block filled out by anything. -/
theorem step_eq (c : Dev nD) (t : Fin cfg0.N) (d : S64x2048.Idx → Elt F .f32) (M : Vec F S64x1 .f32) (I : IVec S64x1 32)
    (h : t.val % 49 ≠ 0 → M = (acc m c t.val).1 ∧ I = (acc m c t.val).2) :
    newMax (grid0.coords t) (win0_0.fill (grid0.coords t) d (iblk m c 0 t)) M = (acc m c (t.val + 1)).1
    ∧ newIdx (grid0.coords t) (win0_0.fill (grid0.coords t) d (iblk m c 0 t)) M I = (acc m c (t.val + 1)).2 := by
  have hs : blkScore (grid0.coords t) (win0_0.fill (grid0.coords t) d (iblk m c 0 t)) = blkScore (grid0.coords t) (blk m c t) :=
    blkScore_fill _ _ _ _
  rw [acc_succ]
  unfold newMax newIdx
  rw [blkMax_congr hs, blkIdx_congr hs]
  by_cases h0 : t.val % 49 = 0
  · have e := (atFirst_iff t).mpr h0
    unfold baseMax baseIdx
    simp only [e, ↓reduceIte, and_self]
  · obtain ⟨rfl, rfl⟩ := h h0
    exact ⟨rfl, rfl⟩

/-- Either the body stores the result's window at a point, or the window is idle there. -/
theorem idle_eq (t : Fin cfg0.N) : cfg0.idle 1 (grid0.coords t) = !(k0_cond2 (grid0.coords t) == 1#1) := rfl

/-- The body obligation: from `sound_body` at the point's staging buffers. -/
theorem body_obligation (c : Dev nD) : BodyObligationLoose (dats m 0 c) (defs₀ (F := F)) 𝒱₀ () Set.univ := fun t => by
  rw [bigSep_W0, bigSep_W0]
  simp only
  rw [show (dats m 0 c).Φ t.succ = PhiS m c (t.val + 1) from rfl,
    show (dats m 0 c).Φ t.castSucc = PhiS m c t.val from rfl,
    show (dats m 0 c).owesAt () t.succ = (dats m 0 c).owesAt () t.castSucc from rfl]
  unfold PhiS
  iintro ⟨⟨%M, %I, %hMI, HM, HI, Hr⟩, Ho, ⟨%d0, H0⟩, ⟨%d1, H1⟩⟩
  rw [before_0 m c t d0]
  obtain ⟨e1, e2⟩ := step_eq m c t d0 M I hMI
  iapply (sound_body (F := F) c Set.univ (grid0.coords t) (cfg0.slots t 0) (cfg0.slots t 1)
    (win0_0.fill (grid0.coords t) d0 (iblk m c 0 t)) ((dats m 0 c).before (1 : Fin 2) t d1) M I _)
  isplitl [H0 H1 HM HI]
  · isplitl [H0]
    · iexact H0
    isplitl [H1]
    · iexact H1
    isplitl [HM]
    · iexact HM
    · iexact HI
  iintro ⟨H0, H1, HM, HI⟩
  rw [e1, e2]
  isplitl [HM HI Hr]
  · iexists _
    iexists _
    isplitr
    · ipureintro; exact fun _ => ⟨rfl, rfl⟩
    isplitl [HM]
    · iexact HM
    isplitl [HI]
    · iexact HI
    · iexact Hr
  isplitl [Ho]; · iexact Ho
  isplitl [H0]
  · iexists d0
    change _ ⊢ owns (c : Thread nD τ) (stage0_0 (cfg0.slots t 0)) fullShare (win0_0.fill (grid0.coords t) d0 (win0_0.cut (grid0.coords t) (blk m c t)))
    rw [show win0_0.cut (grid0.coords t) (blk m c t) = iblk m c 0 t from win0_0.cut_fill _ _ _]; try iexact H0
  · by_cases hc : k0_cond2 (grid0.coords t) = 1#1
    · have hi : idle0 1 (grid0.coords t) = false := by
        show (!(k0_cond2 (grid0.coords t) == 1#1)) = false; rw [hc]; rfl
      rw [if_pos hc]
      simp only [hi]
      iexact H1
    · have hi : idle0 1 (grid0.coords t) = true := by
        show (!(k0_cond2 (grid0.coords t) == 1#1)) = true
        rw [Bool.not_eq_true', beq_eq_false_iff_ne]; exact hc
      have hf : (cfg0.win 1).flush t = false := by
        rw [Bool.eq_false_iff]
        exact fun h => hc ((atLast_iff t).mpr ((flush0_1 t).mp h))
      rw [if_neg hc]
      simp only [hi, hf]
      iexists d1
      iexact H1

/-! ## The launch -/

set_option backward.isDefEq.respectTransparency.types false in
/-- From any memory with zero counters, every weakly fair execution of @main terminates with the result array at the
    contents the proof data give, the logits as launched, and every counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ 𝒱₀ m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀)
    (hA := fun _ _ => rfl)
    (hin := fun c => by
      show Pipeline.ΦA spec0 c ⊢ PhiS m c 0
      unfold Pipeline.ΦA PhiS
      rw [scopedRest0_eq]
      iintro ⟨⟨⟨%f, Hf⟩, ⟨%g, Hg⟩⟩, Hr⟩
      iexists f
      iexists g
      isplitr
      · ipureintro; intro h; exact absurd rfl h
      isplitl [Hf]
      · iexact Hf
      isplitl [Hg]
      · iexact Hg
      · iexact Hr)
    (hout := fun c => by
      show PhiS m c _ ⊢ Pipeline.ΦA spec0 c
      unfold Pipeline.ΦA PhiS
      rw [scopedRest0_eq]
      iintro ⟨%M, %I, -, Hf, Hg, Hr⟩
      isplitl [Hf Hg]
      · isplitl [Hf]
        · iexists M; iexact Hf
        · iexists I; iexact Hg
      · iexact Hr)
    (Q' := _) (hQ' := fun _ h => h)

end Cert.GumbelK

end
-- ==== Proof.Frames.lean ====
/-
  The kernel's frame: it terminates, leaves its argument as it was and every semaphore counter at zero. The idealized
  module is the kernel's own text, so the kernel's run is the idealized module's at the machine's floats.
-/
module

public import proofs.«01_k».proof.Proof.KRun
public import proofs.«01_k».proof.Proof.Gen.Kernel

@[expose] public section

noncomputable section

namespace Cert.GumbelK

open Idealize.ShloMosaic Idealize.ShloMosaic.TcCoe Idealize.SL.Sem

variable {F : FTy → Type} [FloatOps F]

/-- The idealized module's frame, at any floats. -/
theorem frame_ideal (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run Cert.KernelIdeal.defs _ _).mono
    (fun _ h => ⟨fun c => ((h.1 c).1 0).trans ((dats m 0 c).arrAt_in 0 rfl _), h.2⟩) (run_main m g)

set_option maxRecDepth 65536 in
/-- The two modules' entry functions are one program, -/
theorem main_same : Cert.Kernel.main (F := F) = Cert.KernelIdeal.main (F := F) := rfl
set_option maxRecDepth 65536 in
/-- over one table of kernels. -/
theorem defs_same : Cert.Kernel.defs (F := F) = Cert.KernelIdeal.defs (F := F) := by sl_kernel_rfl

/-- The kernel's frame, at any floats. -/
theorem frame_kernel (m : (ℓ : Loc Cert.Kernel.nD Cert.Kernel.τ Cert.Kernel.sig) → Buf (Elt F) ℓ)
    (g : Dev Cert.Kernel.nD → PrngReg) :
    θ_run (Cert.Kernel.defs (F := F)) (onTc (τ := Cert.Kernel.τ) (Cert.Kernel.main (F := F))) ⟨m, fun _ => 0, g⟩
      (fun r => (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0))
        ∧ r.2.sem = fun _ => 0) := by
  have h := frame_ideal (F := F) m g
  rw [← main_same, ← defs_same] at h
  exact h

end Cert.GumbelK

end
-- ==== Proof.Line.lean ====
/-
  A line of host operations as a list of steps, each an operation bundled with the buffers it reads, the buffer it
  writes and the equation it leaves behind. Where no buffer is written twice, nor written after it was read, every
  step's equation holds of the contents the whole line ends with.
-/
module

public import Idealize.ShloMosaic.Lib.StableHlo.RunHlo

@[expose] public section

noncomputable section

namespace Cert.HostLine

open Idealize.ShloMosaic Idealize.ShloMosaic.StableHlo

variable {τ : Topo} {sig : RefSig} {Val : EltTy → Type}

/-- What a typed reference's buffer holds, at the value's type. -/
def rd {T : BufTy} (V : Valuation τ sig Val) (x : TRef sig T) : T.Contents Val := x.ofBuf (V (Proc.devRef .tc x.ref))

/-- One operation with what it reads, what it writes, and the equation that holds once it has run. -/
structure Step (τ : Topo) (sig : RefSig) (Val : EltTy → Type) where
  op : HloOp τ sig Val
  reads : List (Ref sig .tc)
  out : Ref sig .tc
  eqn : Valuation τ sig Val → Prop
  writes : op.writes = {Proc.devRef .tc out}
  sub : op.bufs ⊆ tcRefs τ sig
  fresh : op.fresh = ∅
  holds : ∀ V X : Valuation τ sig Val, (∀ r ∈ reads, X (Proc.devRef .tc r) = V (Proc.devRef .tc r)) →
    X (Proc.devRef .tc out) = op.result V (Proc.devRef .tc out) → eqn X

namespace Step

variable {Ta Tb Tc Te Ty : BufTy}

theorem rd_toBuf {T : BufTy} (y : TRef sig T) (X : Valuation τ sig Val) (v : T.Contents Val)
    (h : X (Proc.devRef .tc y.ref) = y.toBuf v) : rd X y = v := by
  obtain ⟨r, rfl, h1, h2⟩ := y
  exact h

/-- A constant or an iota. -/
def nullary (y : TRef sig Ty) (v : Ty.Contents Val) : Step τ sig Val where
  op := TRef.nullary y v
  reads := []
  out := y.ref
  eqn X := rd X y = v
  writes := rfl
  sub := nullary_bufs_sub ..
  fresh := rfl
  holds V X _ h := rd_toBuf y X v (h.trans (nullary_result ..))

/-- An operation of one operand. -/
def unary (a : TRef sig Ta) (y : TRef sig Ty) (f : Ta.Contents Val → Ty.Contents Val) : Step τ sig Val where
  op := TRef.unary a y f
  reads := [a.ref]
  out := y.ref
  eqn X := rd X y = f (rd X a)
  writes := rfl
  sub := unary_bufs_sub ..
  fresh := rfl
  holds V X hr h := by
    refine rd_toBuf y X _ (h.trans ((unary_result ..).trans ?_))
    rw [rd, hr a.ref (by simp)]

/-- An operation of two operands. -/
def binary (a : TRef sig Ta) (b : TRef sig Tb) (y : TRef sig Ty)
    (f : Ta.Contents Val → Tb.Contents Val → Ty.Contents Val) : Step τ sig Val where
  op := TRef.binary a b y f
  reads := [a.ref, b.ref]
  out := y.ref
  eqn X := rd X y = f (rd X a) (rd X b)
  writes := rfl
  sub := binary_bufs_sub ..
  fresh := rfl
  holds V X hr h := by
    refine rd_toBuf y X _ (h.trans ((binary_result ..).trans ?_))
    rw [rd, rd, hr a.ref (by simp), hr b.ref (by simp)]

/-- One result of an operation of four operands. -/
def quaternary (a : TRef sig Ta) (b : TRef sig Tb) (c : TRef sig Tc) (e : TRef sig Te) (y : TRef sig Ty)
    (f : Ta.Contents Val → Tb.Contents Val → Tc.Contents Val → Te.Contents Val → Ty.Contents Val) : Step τ sig Val where
  op := TRef.quaternary a b c e y f
  reads := [a.ref, b.ref, c.ref, e.ref]
  out := y.ref
  eqn X := rd X y = f (rd X a) (rd X b) (rd X c) (rd X e)
  writes := rfl
  sub := quaternary_bufs_sub ..
  fresh := rfl
  holds V X hr h := by
    refine rd_toBuf y X _ (h.trans ((quaternary_result ..).trans ?_))
    rw [rd, rd, rd, rd, hr a.ref (by simp), hr b.ref (by simp), hr c.ref (by simp), hr e.ref (by simp)]

/-- A reshape. -/
def reshape (a : TRef sig Ta) (y : TRef sig Ty) (he : Ta.elt = Ty.elt) (hn : Ta.shape.ShapeCasts Ty.shape) :
    Step τ sig Val where
  op := TRef.reshape a y he hn
  reads := [a.ref]
  out := y.ref
  eqn X := rd X y = fun i => he ▸ shapeCast Ty.shape (rd X a) hn i
  writes := rfl
  sub := reshape_bufs_sub ..
  fresh := rfl
  holds V X hr h := by
    have h2 := h.trans (reshape_result ..)
    rw [← hr a.ref (by simp)] at h2
    obtain ⟨ra, rfl, _, _⟩ := a
    obtain ⟨ry, rfl, _, _⟩ := y
    exact h2

end Step

/-- No step reads what it writes, nor does a later one write what it touches. -/
def ordered : List (Step τ sig Val) → Bool
  | [] => true
  | s :: l => !(s.reads.contains s.out) && (l.all fun t => !(s.out == t.out) && !(s.reads.contains t.out)) && ordered l

/-- A buffer no step writes keeps its contents. -/
theorem kept (l : List (Step τ sig Val)) (V : Valuation τ sig Val) (r : Ref sig .tc) (h : ∀ t ∈ l, r ≠ t.out) :
    after (l.map Step.op) V (Proc.devRef .tc r) = V (Proc.devRef .tc r) := by
  refine after_of_forall_not_mem _ _ fun op hop hb => ?_
  obtain ⟨t, ht, rfl⟩ := List.mem_map.mp hop
  rw [t.writes, Finset.mem_singleton] at hb
  exact h t ht (Proc.devRef_injective _ hb)

/-- Every step's equation holds of what an ordered line ends with. -/
theorem eqns (l : List (Step τ sig Val)) (V : Valuation τ sig Val) (h : ordered l = true) :
    l.Forall fun s => s.eqn (after (l.map Step.op) V) := by
  induction l generalizing V with
  | nil => trivial
  | cons s l ih =>
    simp only [ordered, Bool.and_eq_true, List.all_eq_true, Bool.not_eq_true', beq_eq_false_iff_ne, ne_eq,
      List.contains_eq_mem, decide_eq_false_iff_not] at h
    obtain ⟨⟨h1, h2⟩, h3⟩ := h
    refine (List.forall_cons _ _ _).mpr ⟨?_, ih _ h3⟩
    refine s.holds V _ (fun r hr => ?_) ?_
    · refine (kept l (s.op.result V) r fun t ht e => (h2 t ht).2 (e ▸ hr)).trans ?_
      refine s.op.result_of_not_mem V ?_
      rw [s.writes, Finset.mem_singleton]
      exact fun e => h1 (Proc.devRef_injective _ e ▸ hr)
    · exact kept l (s.op.result V) s.out fun t ht => (h2 t ht).1

end Cert.HostLine
-- ==== Proof.RLine.lean ====
/-
  The reference's host line as a list of steps: the functions that it calls, each over the buffers of its one call, and
  the whole of @main.
-/
module

public import proofs.«01_k».proof.Proof.Line
public import proofs.«01_k».proof.Proof.Gen.ReferenceIdeal

@[expose] public section

noncomputable section

namespace Cert.GumbelR

open Idealize.ShloMosaic Idealize.ShloMosaic.TcCoe Idealize.SL.Sem Idealize.ShloMosaic.StableHlo
open Cert.ReferenceIdeal Cert.HostLine

open Facts₀

variable {F : FTy → Type} [FloatOps F]

/-- A word array of the whole shape. -/
abbrev WArr := TRef sig ⟨S128x100000, .i32⟩
/-- A scalar word. -/
abbrev WScl := TRef sig ⟨S_, .i32⟩
/-- A line of the reference. -/
abbrev RLine (F : FTy → Type) [FloatOps F] := List (Step τ sig (Elt F))

/-- A scalar word broadcast to the whole array. -/
def spread (x : IVec S_ 32) : IVec S128x100000 32 := broadcastInDim S128x100000 ![] bcast_S_S128x100000 x

/-- One Threefry round: the sum of the two words, and the second rotated left by `a` (right by `b`) and mixed in. -/
def roundSteps (a b : ℕ) (x₀ x₁ s : WArr) (c : WScl) (v l : WArr) (c' : WScl) (v' r o y : WArr) : RLine F :=
  [.binary x₀ x₁ s addi, .nullary c (constantI S_ 32 (BitVec.ofNat 32 a)), .unary c v spread,
   .binary x₁ v l Host.shli, .nullary c' (constantI S_ 32 (BitVec.ofNat 32 b)), .unary c' v' spread,
   .binary x₁ v' r Host.shrui, .binary l r o ori, .binary s o y xori]

/-- The `n`-th key injection: a key word added to each word, and `n` to the second. -/
def keySteps (n : ℕ) (k k' : WScl) (x₀ x₁ v y₀ v' t : WArr) (c : WScl) (u y₁ : WArr) : RLine F :=
  [.unary k v spread, .binary x₀ v y₀ addi, .unary k' v' spread, .binary x₁ v' t addi,
   .nullary c (constantI S_ 32 (BitVec.ofNat 32 n)), .unary c u spread, .binary t u y₁ addi]

/-- The hash: the schedule's third word, the first injection, and five groups of four rounds and an injection. -/
def tfSteps (arg0 arg1 : WScl) (arg2 arg3 : WArr) (φ : fn_threefry2x32.Bufs) : RLine F :=
  [.binary arg0 arg1 φ.v0 xori, .nullary φ.c (constantI S_ 32 466688986#32), .binary φ.v0 φ.c φ.v1 xori,
   .unary arg0 φ.v2 spread, .binary arg2 φ.v2 φ.v3 addi, .unary arg1 φ.v4 spread, .binary arg3 φ.v4 φ.v5 addi] ++
    (roundSteps 13 19 φ.v3 φ.v5 φ.v6 φ.c_0 φ.v7 φ.v8 φ.c_1 φ.v9 φ.v10 φ.v11 φ.v12 ++ (
    roundSteps 15 17 φ.v6 φ.v12 φ.v13 φ.c_2 φ.v14 φ.v15 φ.c_3 φ.v16 φ.v17 φ.v18 φ.v19 ++ (
    roundSteps 26 6 φ.v13 φ.v19 φ.v20 φ.c_4 φ.v21 φ.v22 φ.c_5 φ.v23 φ.v24 φ.v25 φ.v26 ++ (
    roundSteps 6 26 φ.v20 φ.v26 φ.v27 φ.c_6 φ.v28 φ.v29 φ.c_7 φ.v30 φ.v31 φ.v32 φ.v33 ++ (
    keySteps 1 arg1 φ.v1 φ.v27 φ.v33 φ.v34 φ.v35 φ.v36 φ.v37 φ.c_8 φ.v38 φ.v39 ++ (
    roundSteps 17 15 φ.v35 φ.v39 φ.v40 φ.c_9 φ.v41 φ.v42 φ.c_10 φ.v43 φ.v44 φ.v45 φ.v46 ++ (
    roundSteps 29 3 φ.v40 φ.v46 φ.v47 φ.c_11 φ.v48 φ.v49 φ.c_12 φ.v50 φ.v51 φ.v52 φ.v53 ++ (
    roundSteps 16 16 φ.v47 φ.v53 φ.v54 φ.c_13 φ.v55 φ.v56 φ.c_14 φ.v57 φ.v58 φ.v59 φ.v60 ++ (
    roundSteps 24 8 φ.v54 φ.v60 φ.v61 φ.c_15 φ.v62 φ.v63 φ.c_16 φ.v64 φ.v65 φ.v66 φ.v67 ++ (
    keySteps 2 φ.v1 arg0 φ.v61 φ.v67 φ.v68 φ.v69 φ.v70 φ.v71 φ.c_17 φ.v72 φ.v73 ++ (
    roundSteps 13 19 φ.v69 φ.v73 φ.v74 φ.c_18 φ.v75 φ.v76 φ.c_19 φ.v77 φ.v78 φ.v79 φ.v80 ++ (
    roundSteps 15 17 φ.v74 φ.v80 φ.v81 φ.c_20 φ.v82 φ.v83 φ.c_21 φ.v84 φ.v85 φ.v86 φ.v87 ++ (
    roundSteps 26 6 φ.v81 φ.v87 φ.v88 φ.c_22 φ.v89 φ.v90 φ.c_23 φ.v91 φ.v92 φ.v93 φ.v94 ++ (
    roundSteps 6 26 φ.v88 φ.v94 φ.v95 φ.c_24 φ.v96 φ.v97 φ.c_25 φ.v98 φ.v99 φ.v100 φ.v101 ++ (
    keySteps 3 arg0 arg1 φ.v95 φ.v101 φ.v102 φ.v103 φ.v104 φ.v105 φ.c_26 φ.v106 φ.v107 ++ (
    roundSteps 17 15 φ.v103 φ.v107 φ.v108 φ.c_27 φ.v109 φ.v110 φ.c_28 φ.v111 φ.v112 φ.v113 φ.v114 ++ (
    roundSteps 29 3 φ.v108 φ.v114 φ.v115 φ.c_29 φ.v116 φ.v117 φ.c_30 φ.v118 φ.v119 φ.v120 φ.v121 ++ (
    roundSteps 16 16 φ.v115 φ.v121 φ.v122 φ.c_31 φ.v123 φ.v124 φ.c_32 φ.v125 φ.v126 φ.v127 φ.v128 ++ (
    roundSteps 24 8 φ.v122 φ.v128 φ.v129 φ.c_33 φ.v130 φ.v131 φ.c_34 φ.v132 φ.v133 φ.v134 φ.v135 ++ (
    keySteps 4 arg1 φ.v1 φ.v129 φ.v135 φ.v136 φ.v137 φ.v138 φ.v139 φ.c_35 φ.v140 φ.v141 ++ (
    roundSteps 13 19 φ.v137 φ.v141 φ.v142 φ.c_36 φ.v143 φ.v144 φ.c_37 φ.v145 φ.v146 φ.v147 φ.v148 ++ (
    roundSteps 15 17 φ.v142 φ.v148 φ.v149 φ.c_38 φ.v150 φ.v151 φ.c_39 φ.v152 φ.v153 φ.v154 φ.v155 ++ (
    roundSteps 26 6 φ.v149 φ.v155 φ.v156 φ.c_40 φ.v157 φ.v158 φ.c_41 φ.v159 φ.v160 φ.v161 φ.v162 ++ (
    roundSteps 6 26 φ.v156 φ.v162 φ.v163 φ.c_42 φ.v164 φ.v165 φ.c_43 φ.v166 φ.v167 φ.v168 φ.v169 ++ (
    keySteps 5 φ.v1 arg0 φ.v163 φ.v169 φ.v170 φ.v171 φ.v172 φ.v173 φ.c_44 φ.v174 φ.v175)))))))))))))))))))))))))

/-- The counters, the hash, and the uniform sample made of its two words. -/
def uniformSteps (arg0 : TRef sig ⟨S2, .i32⟩) (arg1 arg2 : TRef sig ⟨S_, .f32⟩) (φ : fn_uniform.Bufs) : RLine F :=
  [.unary arg1 φ.v0 id, .unary arg2 φ.v1 (broadcastInDim S1x1 ![] bcast_S_S1x1),
   .unary φ.v0 φ.v2 (broadcastInDim S1x1 ![] bcast_S_S1x1),
   .unary arg0 φ.v3 (extractStridedSlice S1 ![0] · slices_S2_S1_0), .reshape φ.v3 φ.v4 rfl shapeCasts_S1_S_,
   .unary arg0 φ.v5 (extractStridedSlice S1 ![1] · slices_S2_S1_1), .reshape φ.v5 φ.v6 rfl shapeCasts_S1_S_,
   .nullary φ.v7 (iotaInDim S128x100000 64 0), .nullary φ.v8 (iotaInDim S128x100000 64 1),
   .nullary φ.c (constantI S_ 64 100000#64), .unary φ.c φ.v9 (broadcastInDim S128x100000 ![] bcast_S_S128x100000),
   .binary φ.v9 φ.v7 φ.v10 muli, .nullary φ.c_0 (constantI S_ 64 1#64),
   .unary φ.c_0 φ.v11 (broadcastInDim S128x100000 ![] bcast_S_S128x100000), .binary φ.v11 φ.v8 φ.v12 muli,
   .binary φ.v10 φ.v12 φ.v13 addi, .nullary φ.c_1 (constantI S_ 64 32#64),
   .unary φ.c_1 φ.v14 (broadcastInDim S128x100000 ![] bcast_S_S128x100000), .binary φ.v13 φ.v14 φ.v15 Host.shrui,
   .unary φ.v13 φ.v16 (trunci 32 · natLt_32_64), .unary φ.v15 φ.v17 (trunci 32 · natLt_32_64)] ++
  (tfSteps φ.v4 φ.v6 φ.v17 φ.v16 φ.call0 ++
  [.binary φ.call0.v171 φ.call0.v175 φ.v19 xori, .nullary φ.c_2 (constantI S_ 32 9#32), .unary φ.c_2 φ.v20 spread,
   .binary φ.v19 φ.v20 φ.v21 Host.shrui, .nullary φ.c_3 (constantI S_ 32 1065353216#32), .unary φ.c_3 φ.v22 spread,
   .binary φ.v21 φ.v22 φ.v23 ori, .unary φ.v23 φ.v24 (bitcastToFloat .f32),
   .nullary φ.cst (constant S_ .f32 0x3F800000#32),
   .unary φ.cst φ.v25 (broadcastInDim S128x100000 ![] bcast_S_S128x100000), .binary φ.v24 φ.v25 φ.v26 subf,
   .binary φ.v2 φ.v1 φ.v27 subf, .unary φ.v27 φ.v28 (broadcastInDim S128x100000 ![0, 1] bcast_S1x1_S128x100000_0_1),
   .binary φ.v26 φ.v28 φ.v29 mulf, .unary φ.v1 φ.v30 (broadcastInDim S128x100000 ![0, 1] bcast_S1x1_S128x100000_0_1),
   .binary φ.v29 φ.v30 φ.v31 addf, .unary φ.v1 φ.v32 (broadcastInDim S128x100000 ![0, 1] bcast_S1x1_S128x100000_0_1),
   .binary φ.v32 φ.v31 φ.v33 maximumf])

/-- The Gumbel noise: the uniform sample, and its logarithm negated, twice. -/
def gumbelSteps (arg0 : TRef sig ⟨S2, .i32⟩) (φ : fn_gumbel.Bufs) : RLine F :=
  [.nullary φ.cst (constant S_ .f32 0x3F800000#32), .nullary φ.cst_0 (constant S_ .f32 0x00800000#32)] ++
  (uniformSteps arg0 φ.cst φ.cst_0 φ.call0 ++
  [.unary φ.call0.v33 φ.v1 Host.log, .unary φ.v1 φ.v2 Host.negf, .unary φ.v2 φ.v3 Host.log, .unary φ.v3 φ.v4 Host.negf])

/-- The column of the largest value: the columns, the starting pair, and the fold's two results. -/
def argmaxSteps (arg0 : TRef sig ⟨S128x100000, .f32⟩) (φ : fn_argmax.Bufs) : RLine F :=
  [.nullary φ.v0 (iotaInDim S128x100000 32 1), .nullary φ.cst (constant S_ .f32 0xFF800000#32),
   .nullary φ.c (constantI S_ 32 0#32),
   .quaternary arg0 φ.v0 φ.cst φ.c φ.v1_0 (fun x y u v j =>
     (Host.argReduce reducer_argmax_f32_i32 x y u v reducesTo_S128x100000_S128_d1 h_S_ j).1),
   .quaternary arg0 φ.v0 φ.cst φ.c φ.v1_1 (fun x y u v j =>
     (Host.argReduce reducer_argmax_f32_i32 x y u v reducesTo_S128x100000_S128_d1 h_S_ j).2)]

/-- The whole of @main: the key of the seed, the noise, the perturbed logits, and their argmax. -/
def mainSteps : RLine F :=
  [.nullary (.of main_c) (constantI S_ 32 42#32), .nullary (.of main_c_0) (constantI S_ 32 32#32),
   .binary (.of main_c) (.of main_c_0) (.of main_v0 : WScl) (Host.shrui : IVec S_ 32 → IVec S_ 32 → IVec S_ 32),
   .unary (.of main_v0 : WScl) (.of main_v1 : WScl) id,
   .unary (.of main_v1) (.of main_v2 : TRef sig ⟨S1, .i32⟩) (broadcastInDim S1 ![] bcast_S_S1 : IVec S_ 32 → IVec S1 32),
   .nullary (.of main_c_1) (constantI S_ 32 4294967295#32),
   .binary (.of main_c) (.of main_c_1) (.of main_v3 : WScl) (andi : IVec S_ 32 → IVec S_ 32 → IVec S_ 32),
   .unary (.of main_v3 : WScl) (.of main_v4 : WScl) id,
   .unary (.of main_v4) (.of main_v5 : TRef sig ⟨S1, .i32⟩) (broadcastInDim S1 ![] bcast_S_S1 : IVec S_ 32 → IVec S1 32),
   .binary (.of main_v2) (.of main_v5) (.of main_v6 : TRef sig ⟨S2, .i32⟩)
     ((fun a b => concatenate S2 0 [⟨S1, a⟩, ⟨S1, b⟩] concatenates_S1_S1_S2_d0) : IVec S1 32 → IVec S1 32 → IVec S2 32)] ++
  (gumbelSteps (.of main_v6) main_call0 ++ (
  [.binary (.of main_v7) (.of main_arg0) (.of main_v8)
    (addf : FVec F S128x100000 .f32 → FVec F S128x100000 .f32 → FVec F S128x100000 .f32)] ++
  argmaxSteps (.of main_v8) main_call1))

/-- @threefry2x32's body runs its steps. -/
theorem tf_seq (arg0 arg1 : WScl) (arg2 arg3 : WArr) (φ : fn_threefry2x32.Bufs) :
    fn_threefry2x32.body (F := F) arg0 arg1 arg2 arg3 φ = seq ((tfSteps arg0 arg1 arg2 arg3 φ).map Step.op) := rfl

/-- @_uniform's body runs its steps. -/
theorem uniform_seq (arg0 : TRef sig ⟨S2, .i32⟩) (arg1 arg2 : TRef sig ⟨S_, .f32⟩) (φ : fn_uniform.Bufs) :
    fn_uniform.body (F := F) arg0 arg1 arg2 φ = seq ((uniformSteps arg0 arg1 arg2 φ).map Step.op) := by
  rw [uniformSteps, List.map_append, seq_append, List.map_append, seq_append, ← tf_seq]
  rfl

/-- @_gumbel's body runs its steps. -/
theorem gumbel_seq (arg0 : TRef sig ⟨S2, .i32⟩) (φ : fn_gumbel.Bufs) :
    fn_gumbel.body (F := F) arg0 φ = seq ((gumbelSteps arg0 φ).map Step.op) := by
  rw [gumbelSteps, List.map_append, seq_append, List.map_append, seq_append, ← uniform_seq]
  rfl

/-- @argmax's body runs its steps. -/
theorem argmax_seq (arg0 : TRef sig ⟨S128x100000, .f32⟩) (φ : fn_argmax.Bufs) :
    fn_argmax.body (F := F) arg0 φ = seq ((argmaxSteps arg0 φ).map Step.op) := rfl

/-- @main runs its steps. -/
theorem main_seq (d : Dev nD) : main (F := F) d = seq ((mainSteps (F := F)).map Step.op) := by
  rw [mainSteps, List.map_append, seq_append, List.map_append, seq_append, List.map_append, seq_append, ← gumbel_seq,
    ← argmax_seq]
  rfl

end Cert.GumbelR
-- ==== Proof.RRun.lean ====
/-
  The reference's run over the extended reals: it ends with every step's equation true, leaves the argument alone, and
  raises no counter.
-/
module

public import proofs.«01_k».proof.Defs
public import proofs.«01_k».proof.Proof.RLine
public import proofs.«01_k».proof.Proof.Gen.ReferenceIdeal
public import Idealize.ShloMosaic.Lib.Claim
public import Idealize.ShloMosaic.Lib.Quiescent

@[expose] public section

noncomputable section

namespace Cert.GumbelR

open Idealize.ShloMosaic Idealize.ShloMosaic.TcCoe Idealize.SL.Sem Idealize.ShloMosaic.StableHlo
open Cert.ReferenceIdeal Cert.HostLine

/-- No buffer of the reference is written twice, or after it was read. -/
theorem main_ordered : ordered (mainSteps (F := Ideal)) = true := by decide +kernel

/-- The argument is written by no step. -/
theorem arg_unwritten : (mainSteps (F := Ideal)).all (fun t => !(main_arg0 == t.out)) = true := by decide +kernel

/-- The reference's run: every step's equation holds at the end, the argument is as it was, and no counter is up. -/
theorem run_main (m : (ℓ : Loc nD τ sig) → Buf (Elt Ideal) ℓ) (g : Dev nD → PrngReg) :
    θ_run (defs (F := Ideal)) (onTc (τ := τ) (main (F := Ideal))) ⟨m, fun _ => 0, g⟩ (fun r =>
      (∀ c : Dev nD, ∃ X : Valuation τ sig (Elt Ideal),
        (∀ b : Ref sig .tc, r.2.mem ((c.tc : Thread nD τ).loc b) = X (Proc.devRef .tc b)) ∧
        X (Proc.devRef .tc main_arg0) = m ((c.tc : Thread nD τ).loc main_arg0) ∧
        (mainSteps (F := Ideal)).Forall fun s => s.eqn X) ∧ r.2.sem = fun _ => 0) := by
  have h := run_hlo (defs (F := Ideal)) (main (F := Ideal)) (ops := (mainSteps (F := Ideal)).map Step.op) main_seq (by decide)
    (by decide)
    (List.forall_iff_forall_mem.mpr fun op hop => by obtain ⟨s, _, rfl⟩ := List.mem_map.mp hop; exact s.sub)
    (fun op hop => by obtain ⟨s, _, rfl⟩ := List.mem_map.mp hop; exact s.fresh) m g
  refine θ_run_mono h fun r hr => ⟨fun c => ⟨_, hr c, ?_, eqns _ _ main_ordered⟩, sem_eq_zero_of_no_sems (by rfl) _⟩
  refine (kept _ _ main_arg0 fun t ht e => ?_).trans rfl
  have h2 := List.all_eq_true.mp arg_unwritten t ht
  rw [← e] at h2
  simp at h2

/-- The reference's frame: the argument as it was, and no counter up. -/
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r =>
      (∀ c : Dev nD, r.2.mem ((c.tc : Thread nD τ).loc main_arg0) = m ((c.tc : Thread nD τ).loc main_arg0)) ∧
      r.2.sem = fun _ => 0) :=
  θ_run_mono (run_main m g) fun r hr => ⟨fun c => by
    obtain ⟨X, hX, ha, _⟩ := hr.1 c
    exact (hX main_arg0).trans ha, hr.2⟩

end Cert.GumbelR
-- ==== Proof.Hash.lean ====
/-
  The perturbation of one logit, by words: the counter's hash (Threefry with twenty rounds), and the Gumbel noise made of
  the hash's two words over the extended reals.
-/
module

public import Idealize.ShloMosaic.PureOps.Ideal
public import Idealize.ShloMosaic.PureOps.Ideal.Laws

@[expose] public section

noncomputable section

namespace Cert.Gumbel

open Idealize.ShloMosaic

/-- The two words the hash works on. -/
abbrev Pair := BitVec 32 × BitVec 32

/-- A word rotated left by `a`, where `a + b` is 32. -/
def rot (a b : ℕ) (x : BitVec 32) : BitVec 32 := x <<< BitVec.ofNat 32 a ||| x >>> BitVec.ofNat 32 b

/-- One round: the sum, and the second word rotated and mixed with it. -/
def rnd (a b : ℕ) (p : Pair) : Pair := (p.1 + p.2, (p.1 + p.2) ^^^ rot a b p.2)

/-- The `n`-th key injection. -/
def inj (n : ℕ) (k k' : BitVec 32) (p : Pair) : Pair := (p.1 + k, p.2 + k' + BitVec.ofNat 32 n)

/-- The odd groups of four rounds. -/
def mixL (p : Pair) : Pair := rnd 6 26 (rnd 26 6 (rnd 15 17 (rnd 13 19 p)))
/-- The even groups of four rounds. -/
def mixR (p : Pair) : Pair := rnd 24 8 (rnd 16 16 (rnd 29 3 (rnd 17 15 p)))

/-- The hash of a pair of words under the key `k₀, k₁` and its third word `k₂`. -/
def hash (k₀ k₁ k₂ : BitVec 32) (p : Pair) : Pair :=
  inj 5 k₂ k₀ (mixL (inj 4 k₁ k₂ (mixR (inj 3 k₀ k₁ (mixL (inj 2 k₂ k₀ (mixR (inj 1 k₁ k₂ (mixL (p.1 + k₀, p.2 + k₁))))))))))

/-- The hash of counter `n` under the seed 42. -/
def counterHash (n : ℕ) : Pair := hash 0#32 42#32 466689008#32 (0#32, BitVec.ofNat 32 n)

/-- The two words of a hash folded into the random bits of one sample. -/
def bitsOf (p : Pair) : BitVec 32 := p.1 ^^^ p.2

/-- The bits as a float between one and two. -/
def mantissa (w : BitVec 32) : BitVec 32 := w >>> 9#32 ||| 1065353216#32

/-- The uniform sample of the bits. -/
def uniform (w : BitVec 32) : EReal :=
  max (Ideal.ofBits .f32 0x00800000#32)
    ((Ideal.ofBits .f32 (mantissa w) - Ideal.ofBits .f32 0x3F800000#32) *
      (Ideal.ofBits .f32 0x3F800000#32 - Ideal.ofBits .f32 0x00800000#32) + Ideal.ofBits .f32 0x00800000#32)

/-- The Gumbel noise of the bits. -/
def noise (w : BitVec 32) : EReal := -Ideal.log (-Ideal.log (uniform w))

/-- The noise at row `r`, column `c` of the array of 100000 columns. -/
def noiseAt (r c : ℕ) : EReal := noise (bitsOf (counterHash (r * 100000 + c)))

/-- A shift left by less than the width is the plain shift, on any unit. -/
theorem shli_of_lt (u : ArithUnit) (x : BitVec 32) {a : ℕ} (h : a < 32) :
    IntOp.shli u x (BitVec.ofNat 32 a) = x <<< BitVec.ofNat 32 a := by
  rw [IntOp.shli, if_pos (by rw [BitVec.toNat_ofNat]; omega)]
/-- A shift right by less than the width is the plain shift, on any unit. -/
theorem shrui_of_lt (u : ArithUnit) (x : BitVec 32) {a : ℕ} (h : a < 32) :
    IntOp.shrui u x (BitVec.ofNat 32 a) = x >>> BitVec.ofNat 32 a := by
  rw [IntOp.shrui, if_pos (by rw [BitVec.toNat_ofNat]; omega)]

end Cert.Gumbel
-- ==== Proof.KHash.lean ====
/-
  The kernel's hash: what a block's lanes hold after every round, and the noise a lane adds to its logit.
-/
module

public import proofs.«01_k».proof.Proof.KRun
public import proofs.«01_k».proof.Proof.Hash

@[expose] public section

noncomputable section

namespace Cert.GumbelK

open Idealize.ShloMosaic Cert.KernelIdeal Cert.KernelIdeal.Gen Cert.Gumbel

/-- Lane `j` of two word arrays is the pair `p`. -/
def Lane (j : S64x2048.Idx) (X Y : IVec S64x2048 32) (p : Pair) : Prop := X j = p.1 ∧ Y j = p.2

variable {j : S64x2048.Idx} {X Y : IVec S64x2048 32} {p : Pair}

/-- A word spread over the block. -/
abbrev fill (w : BitVec 32) : IVec S64x2048 32 := broadcast S64x2048 w

/-- One round on a block is the round on each lane. -/
theorem Lane.round (a b : ℕ) (h : Lane j X Y p) (ha : a < 32 := by decide) (hb : b < 32 := by decide) :
    Lane j (addi X Y) (xori (ori (shli Y (fill (BitVec.ofNat 32 a))) (shrui Y (fill (BitVec.ofNat 32 b)))) (addi X Y))
      (rnd a b p) := by
  obtain ⟨h1, h2⟩ := h
  refine ⟨?_, ?_⟩
  · show X j + Y j = _
    rw [h1, h2]; rfl
  · show (IntOp.shli .vector (Y j) (BitVec.ofNat 32 a) ||| IntOp.shrui .vector (Y j) (BitVec.ofNat 32 b)) ^^^ (X j + Y j) = _
    rw [shli_of_lt _ _ ha, shrui_of_lt _ _ hb, h1, h2, BitVec.xor_comm]; rfl

/-- A key injection on a block is the injection on each lane. -/
theorem Lane.key (n : ℕ) (k k' : BitVec 32) (h : Lane j X Y p) :
    Lane j (addi X (fill k)) (addi (addi Y (fill k')) (fill (BitVec.ofNat 32 n))) (inj n k k' p) := by
  obtain ⟨h1, h2⟩ := h
  refine ⟨?_, ?_⟩
  · show X j + k = _
    rw [h1]; rfl
  · show Y j + k' + BitVec.ofNat 32 n = _
    rw [h2]; rfl

/-- The counter of a lane, the key's second word added. -/
theorem counter_eq (i : grid0.Coords) (j : S64x2048.Idx) :
    k0_pay6 i j = BitVec.ofNat 32 (((i 0).val * 64 + (j 0).val) * 100000 + ((i 1).val * 2048 + (j 1).val)) + 42#32 := by
  show (BitVec.ofNat 32 (i 0).val * BitVec.ofNat 32 64 + iota .tc S64x2048 32 [0] iota_S64x2048_d0_w32 j) * BitVec.ofNat 32 100000
    + (BitVec.ofNat 32 (i 1).val * BitVec.ofNat 32 2048 + iota .tc S64x2048 32 [1] iota_S64x2048_d1_w32 j) + 42#32 = _
  rw [iota_single_apply, iota_single_apply]
  simp only [← BitVec.ofNat_mul, ← BitVec.ofNat_add]

/-- A lane's hash, the last injection included, is its counter's. -/
theorem hash_eq (i : grid0.Coords) (j : S64x2048.Idx) :
    Lane j (lastXor i) (addi (addi (lastSum i) (fill 0#32)) (fill 5#32))
      (counterHash (((i 0).val * 64 + (j 0).val) * 100000 + ((i 1).val * 2048 + (j 1).val))) := by
  have h0 : Lane j (fill 0#32) (k0_pay6 i)
      (0#32 + 0#32, BitVec.ofNat 32 (((i 0).val * 64 + (j 0).val) * 100000 + ((i 1).val * 2048 + (j 1).val)) + 42#32) :=
    ⟨rfl, counter_eq i j⟩
  have h1 : Lane j (k0_pay7 i) (k0_pay8 i) _ := h0.round 13 19
  have h2 : Lane j (k0_pay9 i) (k0_pay10 i) _ := h1.round 15 17
  have h3 : Lane j (k0_pay11 i) (k0_pay12 i) _ := h2.round 26 6
  have h4 : Lane j (k0_pay13 i) (k0_pay14 i) _ := h3.round 6 26
  have h5 : Lane j (k0_pay15 i) (k0_pay16 (k0_pay14 i)) _ := h4.key 1 42#32 466689008#32
  have h6 : Lane j (k0_pay17 (k0_pay14 i) (k0_pay15 i)) (k0_pay18 (k0_pay14 i) (k0_pay15 i)) _ := h5.round 17 15
  have h7 : Lane j (k0_pay19 (k0_pay14 i) (k0_pay15 i)) (k0_pay20 (k0_pay14 i) (k0_pay15 i)) _ := h6.round 29 3
  have h8 : Lane j (k0_pay21 (k0_pay14 i) (k0_pay15 i)) (k0_pay22 (k0_pay14 i) (k0_pay15 i)) _ := h7.round 16 16
  have h9 : Lane j (addi (k0_pay23 (k0_pay14 i) (k0_pay15 i)) (fill 466689008#32)) (k0_pay24 (k0_pay14 i) (k0_pay15 i)) _ :=
    (h8.round 24 8).key 2 466689008#32 0#32
  have h10 : Lane j (mixA i) (mixB i) _ := h9.round 13 19
  have h11 : Lane j (k0_pay27 (mixA i) (mixB i)) (k0_pay28 (mixA i) (mixB i)) _ := h10.round 15 17
  have h12 : Lane j (k0_pay29 (mixA i) (mixB i)) (k0_pay30 (mixA i) (mixB i)) _ := h11.round 26 6
  have h13 : Lane j (addi (k0_pay31 (mixA i) (mixB i)) (fill 0#32)) (k0_pay32 (mixA i) (mixB i)) _ :=
    (h12.round 6 26).key 3 0#32 42#32
  have h14 : Lane j (k0_pay33 (mixA i) (mixB i)) (k0_pay34 (mixA i) (mixB i)) _ := h13.round 17 15
  have h15 : Lane j (k0_pay35 (mixA i) (mixB i)) (k0_pay36 (mixA i) (mixB i)) _ := h14.round 29 3
  have h16 : Lane j (k0_pay37 (mixA i) (mixB i)) (k0_pay40 (k0_pay36 (mixA i) (mixB i)) (k0_pay37 (mixA i) (mixB i))
    (k0_pay38 (mixA i) (mixB i)) k0_pay39) _ := h15.round 16 16
  unfold lastXor lastSum
  generalize k0_pay36 (mixA i) (mixB i) = P at h16 ⊢
  generalize k0_pay37 (mixA i) (mixB i) = Q at h16 ⊢
  generalize k0_pay38 (mixA i) (mixB i) = R at h16 ⊢
  have h17 : Lane j (addi (k0_pay41 P Q R k0_pay39) (fill 42#32)) (k0_pay42 P Q R k0_pay39) _ :=
    (h16.round 24 8).key 4 42#32 466689008#32
  have h18 : Lane j (k0_pay43 P Q R k0_pay39) (k0_pay44 P Q R k0_pay39) _ := h17.round 13 19
  have h19 : Lane j (k0_pay45 P Q R k0_pay39) (k0_pay46 P Q R k0_pay39) _ := h18.round 15 17
  have h20 : Lane j (k0_pay47 P Q R k0_pay39) (k0_pay48 P Q R k0_pay39) _ := h19.round 26 6
  have h21 : Lane j (k0_pay51 P Q R k0_pay39) (addi (addi (k0_pay50 P Q R k0_pay39) (fill 0#32)) (fill 5#32)) _ :=
    (h20.round 6 26).key 5 466689008#32 0#32
  exact h21

/-- What the kernel makes of a lane's random bits. -/
def laneNoise {F : FTy → Type} [FloatOps F] (w : BitVec 32) : F .f32 :=
  FloatOps.subf (FloatOps.ofBits .f32 0x00000000#32) (FloatOps.log (FloatOps.subf (FloatOps.ofBits .f32 0x00000000#32) (FloatOps.log
    (FloatOps.maximumf (FloatOps.ofBits .f32 0x00800000#32)
      (FloatOps.addf (FloatOps.mulf (FloatOps.subf (FloatOps.ofBits .f32 (IntOp.ori (IntOp.shrui .vector w 9#32) 1065353216#32))
        (FloatOps.ofBits .f32 0x3F800000#32)) (Scalar.subf (Scalar.ofBits .f32 0x3F800000#32)
          (Scalar.ofBits .f32 0x00800000#32))) (FloatOps.ofBits .f32 0x00800000#32))))))

/-- The perturbation of a lane is the kernel's chain from the lane's bits. -/
theorem blkNoise_lane {F : FTy → Type} [FloatOps F] (i : grid0.Coords) (j : S64x2048.Idx) : blkNoise (F := F) i j =
    laneNoise (IntOp.xori (lastXor i j) (addi (addi (lastSum i) (fill 0#32)) (fill 5#32) j)) := rfl

/-- The kernel's chain from the bits is the Gumbel noise. -/
theorem laneNoise_eq (w : BitVec 32) : (laneNoise w : Ideal .f32) = noise w := by
  have hw : IntOp.ori (IntOp.shrui .vector w 9#32) 1065353216#32 = mantissa w := by
    rw [show (9#32 : BitVec 32) = BitVec.ofNat 32 9 from rfl, shrui_of_lt _ _ (by decide)]; rfl
  have hs : (Scalar.subf (Scalar.ofBits .f32 0x3F800000#32) (Scalar.ofBits .f32 0x00800000#32) : Ideal .f32)
      = FloatOps.subf (FloatOps.ofBits .f32 0x3F800000#32) (FloatOps.ofBits .f32 0x00800000#32) := rfl
  rw [laneNoise, hw, hs]
  simp only [Ideal.ofBits_def, Ideal.subf_def, Ideal.addf_def, Ideal.mulf_def, Ideal.maximumf_def, Ideal.log_def]
  rw [Ideal.ofBits_zero_f32, zero_sub, zero_sub, noise, uniform]

/-- The perturbation of a lane is the Gumbel noise at its row and column. -/
theorem blkNoise_eq (i : grid0.Coords) (j : S64x2048.Idx) :
    blkNoise (F := Ideal) i j = noiseAt ((i 0).val * 64 + (j 0).val) ((i 1).val * 2048 + (j 1).val) := by
  obtain ⟨h1, h2⟩ := hash_eq i j
  rw [blkNoise_lane, laneNoise_eq, h1, h2, noiseAt, bitsOf, IntOp.xori]

end Cert.GumbelK
-- ==== Proof.ArgMax.lean ====
/-
  The column of a row's largest value, the least one among equals: as a property of a maximum and a column over the first
  `n` columns, block after block, and of a fold over a list of values with their columns.
-/
module

public import Idealize.ShloMosaic.PureOps.Ideal

@[expose] public section

noncomputable section

namespace Cert.Gumbel

open Idealize.ShloMosaic

/-- `M` is the largest of the first `n` values (minus infinity of none), and `I` the least column that attains it; where
    every value is minus infinity, `I` is zero. -/
def IsArg (f : ℕ → EReal) (n : ℕ) (M : EReal) (I : ℕ) : Prop :=
  (∀ c < n, f c ≤ M) ∧ ((M = ⊥ ∧ I = 0) ∨ (⊥ < M ∧ I < n ∧ f I = M ∧ ∀ c < I, f c < M))

variable {f : ℕ → EReal} {n : ℕ} {M : EReal} {I : ℕ}

/-- Of no columns the pair is minus infinity and zero. -/
theorem IsArg.zero (f : ℕ → EReal) : IsArg f 0 ⊥ 0 := ⟨fun _ h => absurd h (Nat.not_lt_zero _), .inl ⟨rfl, rfl⟩⟩

/-- The column lies within the columns, or is zero. -/
theorem IsArg.le (h : IsArg f n M I) : I ≤ n := by
  rcases h.2 with ⟨_, h0⟩ | ⟨_, h1, _⟩ <;> omega

/-- The pair is the only one. -/
theorem IsArg.unique (h : IsArg f n M I) {M' : EReal} {I' : ℕ} (h' : IsArg f n M' I') : I = I' := by
  obtain ⟨hu, h⟩ := h
  obtain ⟨hu', h'⟩ := h'
  rcases h with ⟨rfl, rfl⟩ | ⟨hb, hl, he, hm⟩
  · rcases h' with ⟨_, rfl⟩ | ⟨hb', hl', he', _⟩
    · rfl
    · exact absurd (lt_of_lt_of_le (he' ▸ hb') (hu _ hl')) (lt_irrefl _)
  · rcases h' with ⟨rfl, rfl⟩ | ⟨hb', hl', he', hm'⟩
    · exact absurd (lt_of_lt_of_le (he ▸ hb) (hu' _ hl)) (lt_irrefl _)
    · have e : M = M' := le_antisymm (he ▸ hu' _ hl) (he' ▸ hu _ hl')
      subst e
      rcases lt_trichotomy I I' with hlt | heq | hgt
      · exact absurd (he ▸ hm' _ hlt) (lt_irrefl _)
      · exact heq
      · exact absurd (he' ▸ hm _ hgt) (lt_irrefl _)

/-- A block of `k` more columns, whose maximum is `m`, first attained at column `T`: the pair moves there where the block's
    maximum is the larger one, and stays otherwise. -/
theorem IsArg.step (h : IsArg f n M I) {k : ℕ} {m : EReal} {T : ℕ} (hm : ∀ c, n ≤ c → c < n + k → f c ≤ m)
    (hT : ⊥ < m → n ≤ T ∧ T < n + k ∧ f T = m ∧ ∀ c, n ≤ c → c < T → f c < m) :
    IsArg f (n + k) (if M < m then m else M) (if M < m then T else I) := by
  obtain ⟨hu, h⟩ := h
  by_cases hc : M < m
  · rw [if_pos hc, if_pos hc]
    obtain ⟨h1, h2, h3, h4⟩ := hT (lt_of_le_of_lt bot_le hc)
    refine ⟨fun c hcn => ?_, .inr ⟨lt_of_le_of_lt bot_le hc, h2, h3, fun c hcT => ?_⟩⟩
    · rcases Nat.lt_or_ge c n with hl | hl
      · exact (hu c hl).trans hc.le
      · exact hm c hl hcn
    · rcases Nat.lt_or_ge c n with hl | hl
      · exact lt_of_le_of_lt (hu c hl) hc
      · exact h4 c hl hcT
  · rw [if_neg hc, if_neg hc]
    refine ⟨fun c hcn => ?_, ?_⟩
    · rcases Nat.lt_or_ge c n with hl | hl
      · exact hu c hl
      · exact (hm c hl hcn).trans (not_lt.mp hc)
    · rcases h with h | ⟨h1, h2, h3, h4⟩
      · exact .inl h
      · exact .inr ⟨h1, by omega, h3, h4⟩

/-- Columns of minus infinity at the end do not matter. -/
theorem IsArg.cut (h : IsArg f n M I) {k : ℕ} (hk : k ≤ n) (hf : ∀ c, k ≤ c → f c = ⊥) : IsArg f k M I := by
  obtain ⟨hu, h⟩ := h
  refine ⟨fun c hc => hu c (by omega), ?_⟩
  rcases h with h | ⟨h1, h2, h3, h4⟩
  · exact .inl h
  · refine .inr ⟨h1, ?_, h3, h4⟩
    by_contra hn
    rw [hf I (by omega)] at h3
    exact absurd (h3 ▸ h1) (lt_irrefl _)

/-- What a fold over a list of values with their columns keeps: the value bounds the list's, and the column is the least
    that attains it, or zero where every value is minus infinity. -/
def ArgOf (L : List (EReal × BitVec 32)) (q : EReal × BitVec 32) : Prop :=
  (∀ p ∈ L, p.1 ≤ q.1) ∧ ((q.1 = ⊥ ∧ q.2 = 0#32) ∨ (⊥ < q.1 ∧ q ∈ L ∧ ∀ p ∈ L, p.1 = q.1 → q.2.toInt ≤ p.2.toInt))

/-- The step of an argmax: the larger value with its column, and of equal values the lesser column. -/
def pick (a b : EReal × BitVec 32) : EReal × BitVec 32 :=
  (if b.1 < a.1 then a.1 else b.1, if b.1 < a.1 ∨ a.1 = b.1 ∧ a.2.toInt < b.2.toInt then a.2 else b.2)

/-- One step of the fold keeps it, for a column that is not negative. -/
theorem ArgOf.step {L : List (EReal × BitVec 32)} {q : EReal × BitVec 32} (h : ArgOf L q) (b : EReal × BitVec 32)
    (hb : 0 ≤ b.2.toInt) : ArgOf (L ++ [b]) (pick q b) := by
  obtain ⟨hu, h⟩ := h
  obtain ⟨q, i⟩ := q
  obtain ⟨v, k⟩ := b
  dsimp only at hu h hb ⊢
  rcases lt_trichotomy v q with hlt | heq | hgt
  · -- the kept value is the larger
    have e : pick (q, i) (v, k) = (q, i) := by simp [pick, hlt]
    rw [e]
    refine ⟨fun p hp => ?_, ?_⟩
    · rcases List.mem_append.mp hp with hp | hp
      · exact hu p hp
      · rw [List.mem_singleton.mp hp]; exact hlt.le
    · rcases h with h | ⟨h1, h2, h3⟩
      · exact .inl h
      · refine .inr ⟨h1, List.mem_append_left _ h2, fun p hp he => ?_⟩
        rcases List.mem_append.mp hp with hp | hp
        · exact h3 p hp he
        · rw [List.mem_singleton.mp hp] at he; exact absurd he hlt.ne
  · -- the values are equal
    subst heq
    have e : pick (v, i) (v, k) = (v, if i.toInt < k.toInt then i else k) := by simp [pick]
    rw [e]
    refine ⟨fun p hp => ?_, ?_⟩
    · rcases List.mem_append.mp hp with hp | hp
      · exact hu p hp
      · rw [List.mem_singleton.mp hp]
    · rcases h with ⟨h1, h2⟩ | ⟨h1, h2, h3⟩
      · refine .inl ⟨h1, ?_⟩
        dsimp only at h2 ⊢
        subst h2
        by_cases hk : (0#32).toInt < k.toInt
        · rw [if_pos hk]
        · rw [if_neg hk]
          apply BitVec.eq_of_toInt_eq
          have h0 : (0#32).toInt = 0 := by decide
          omega
      · refine .inr ⟨h1, ?_, fun p hp he => ?_⟩
        · by_cases hk : i.toInt < k.toInt
          · rw [if_pos hk]; exact List.mem_append_left _ h2
          · rw [if_neg hk]; exact List.mem_append_right _ (List.mem_singleton.mpr rfl)
        · dsimp only at he h3 ⊢
          have h4 : (if i.toInt < k.toInt then i else k).toInt ≤ i.toInt ∧ (if i.toInt < k.toInt then i else k).toInt ≤ k.toInt := by
            split <;> omega
          rcases List.mem_append.mp hp with hp | hp
          · exact h4.1.trans (h3 p hp he)
          · rw [List.mem_singleton.mp hp]; exact h4.2
  · -- the new value is the larger
    have e : pick (q, i) (v, k) = (v, k) := by simp [pick, not_lt.mpr hgt.le, hgt.ne]
    rw [e]
    refine ⟨fun p hp => ?_, .inr ⟨lt_of_le_of_lt bot_le hgt, List.mem_append_right _ (List.mem_singleton.mpr rfl), fun p hp he => ?_⟩⟩
    · rcases List.mem_append.mp hp with hp | hp
      · exact (hu p hp).trans hgt.le
      · rw [List.mem_singleton.mp hp]
    · rcases List.mem_append.mp hp with hp | hp
      · exact absurd (show p.1 = v from he) (lt_of_le_of_lt (hu p hp) hgt).ne
      · rw [List.mem_singleton.mp hp]

/-- The fold from minus infinity and column zero. -/
theorem ArgOf.foldl (L : List (EReal × BitVec 32)) (h : ∀ p ∈ L, 0 ≤ p.2.toInt) : ArgOf L (L.foldl pick (⊥, 0#32)) := by
  induction L using List.reverseRecOn with
  | nil => exact ⟨fun p hp => by simp at hp, .inl ⟨rfl, rfl⟩⟩
  | append_singleton L b ih =>
    rw [List.foldl_append]
    exact (ih fun p hp => h p (List.mem_append_left _ hp)).step b (h b (List.mem_append_right _ (List.mem_singleton.mpr rfl)))

/-- The signed value of a column's word. -/
theorem toInt_col {c : ℕ} (h : c < 2 ^ 31) : (BitVec.ofNat 32 c).toInt = c := by
  rw [BitVec.toInt_eq_toNat_of_lt (by rw [BitVec.toNat_ofNat]; omega), BitVec.toNat_ofNat, Nat.mod_eq_of_lt (by omega)]

/-- Over a list of exactly the first `n` values with their columns, the fold's column is the row's. -/
theorem ArgOf.isArg {L : List (EReal × BitVec 32)} {q : EReal × BitVec 32} (h : ArgOf L q) (hn : n < 2 ^ 31)
    (hL : ∀ p, p ∈ L ↔ ∃ c < n, p = (f c, BitVec.ofNat 32 c)) : ∃ I, q.2 = BitVec.ofNat 32 I ∧ IsArg f n q.1 I := by
  obtain ⟨hu, h⟩ := h
  have hu' : ∀ c < n, f c ≤ q.1 := fun c hc => hu _ ((hL _).mpr ⟨c, hc, rfl⟩)
  rcases h with ⟨h1, h2⟩ | ⟨h1, h2, h3⟩
  · exact ⟨0, h2, hu', .inl ⟨h1, rfl⟩⟩
  · obtain ⟨I, hI, rfl⟩ := (hL q).mp h2
    refine ⟨I, rfl, hu', .inr ⟨h1, hI, rfl, fun c hc => lt_of_le_of_ne (hu' c (by omega)) fun e => ?_⟩⟩
    have h4 := h3 _ ((hL _).mpr ⟨c, by omega, rfl⟩) e
    dsimp only at h4
    rw [toInt_col (by omega), toInt_col (by omega)] at h4
    omega

end Cert.Gumbel
-- ==== Proof.Score.lean ====
/-
  The scores of a row: noise plus logit inside the array and minus infinity past its end; the row's column; and one
  block of a row by its maximum and its least maximizing column.
-/
module

public import proofs.«01_k».proof.Proof.Hash
public import proofs.«01_k».proof.Proof.ArgMax
public import Idealize.ShloMosaic.Lib.Pointwise.Index
public import Idealize.ShloMosaic.Lib.SortNet.Extract

@[expose] public section

noncomputable section

namespace Cert.Gumbel

open Idealize.ShloMosaic

/-- The logits' entry at row `r`, column `c`. -/
def cell (A : (⟨2, ![128, 100000]⟩ : Shape).Idx → EReal) (r c : ℕ) : EReal :=
  if h : r < 128 ∧ c < 100000 then A (ix2 ⟨r, h.1⟩ ⟨c, h.2⟩) else 0

/-- It is the array at its own coordinates. -/
theorem cell_eq (A : (⟨2, ![128, 100000]⟩ : Shape).Idx → EReal) (i : (⟨2, ![128, 100000]⟩ : Shape).Idx) :
    cell A (i 0).val (i 1).val = A i := by
  rw [cell, dif_pos ⟨(i 0).isLt, (i 1).isLt⟩]
  congr 1
  funext a
  match a with
  | ⟨0, _⟩ => rfl
  | ⟨1, _⟩ => rfl

/-- The score at row `r`, column `c`. -/
def score (A : (⟨2, ![128, 100000]⟩ : Shape).Idx → EReal) (r c : ℕ) : EReal :=
  if c < 100000 then noiseAt r c + cell A r c else ⊥

/-- The least column of the first `n` that attains their maximum. -/
def argCol (f : ℕ → EReal) (n : ℕ) : ℕ := Classical.epsilon fun I => ∃ M, IsArg f n M I

/-- A column that has the property is that one. -/
theorem IsArg.eq_argCol {f : ℕ → EReal} {n : ℕ} {M : EReal} {I : ℕ} (h : IsArg f n M I) : I = argCol f n :=
  h.unique (Classical.epsilon_spec (p := fun I => ∃ M, IsArg f n M I) ⟨I, M, h⟩).choose_spec

/-- A signed minimum over a set is at most the start and every word met, and is one of them. -/
theorem fold_minsi {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (Finset.notMem_empty i), .inl Finset.fold_empty⟩
  | insert a s has ih =>
    obtain ⟨h1, h2⟩ := ih
    rw [Finset.fold_insert has]
    have hm := SortNet.toInt_minsi (g a) (s.fold IntOp.minsi init g)
    refine ⟨fun i hi => ?_, ?_⟩
    · rw [hm]
      rcases Finset.mem_insert.mp hi with rfl | hi
      · exact min_le_left _ _
      · exact (min_le_right _ _).trans (h1 i hi)
    · rcases min_choice (g a).toInt (s.fold IntOp.minsi init g).toInt with h | h
      · exact .inr ⟨a, Finset.mem_insert_self a s, BitVec.eq_of_toInt_eq (hm.trans h)⟩
      · have e := BitVec.eq_of_toInt_eq (hm.trans h)
        rcases h2 with h2 | ⟨i, hi, h2⟩
        · exact .inl (e.trans h2)
        · exact .inr ⟨i, Finset.mem_insert_of_mem hi, e.trans h2⟩

/-- One block of a row: its maximum bounds it, and where that is above minus infinity, the signed minimum of the columns
    attaining it is the least such column. -/
theorem block_spec {f : ℕ → EReal} {n k : ℕ} (hn : n + k < 2147483647) :
    (∀ c, n ≤ c → c < n + k → f c ≤ (Finset.univ : Finset (Fin k)).fold max ⊥ fun l => f (n + l.val)) ∧
    (⊥ < ((Finset.univ : Finset (Fin k)).fold max ⊥ fun l => f (n + l.val)) → ∃ T,
      (Finset.univ : Finset (Fin k)).fold IntOp.minsi 2147483647#32 (fun l =>
        if f (n + l.val) = (Finset.univ : Finset (Fin k)).fold max ⊥ (fun l => f (n + l.val)) then BitVec.ofNat 32 (n + l.val)
        else 2147483647#32) = BitVec.ofNat 32 T ∧
      n ≤ T ∧ T < n + k ∧ f T = ((Finset.univ : Finset (Fin k)).fold max ⊥ fun l => f (n + l.val)) ∧
      ∀ c, n ≤ c → c < T → f c < (Finset.univ : Finset (Fin k)).fold max ⊥ fun l => f (n + l.val)) := by
  generalize hm : ((Finset.univ : Finset (Fin k)).fold max ⊥ fun l => f (n + l.val)) = m
  have hu : ∀ c, n ≤ c → c < n + k → f c ≤ m := fun c h1 h2 => by
    rw [← hm, Finset.le_fold_max]
    refine .inr ⟨⟨c - n, by omega⟩, Finset.mem_univ _, ?_⟩
    dsimp only
    rw [Nat.add_sub_of_le h1]
  refine ⟨hu, fun hb => ?_⟩
  have hx : m ≤ ⊥ ∨ ∃ l ∈ (Finset.univ : Finset (Fin k)), m ≤ f (n + l.val) := by
    rw [← Finset.le_fold_max, hm]
  rcases hx with hx | ⟨l, -, hl⟩
  · exact absurd (lt_of_lt_of_le hb hx) (lt_irrefl _)
  have hl : f (n + l.val) = m := le_antisymm (hu _ (by omega) (by omega)) hl
  obtain ⟨h1, h2⟩ := fold_minsi (fun l : Fin k => if f (n + l.val) = m then BitVec.ofNat 32 (n + l.val) else 2147483647#32)
    Finset.univ 2147483647#32
  generalize (Finset.univ : Finset (Fin k)).fold IntOp.minsi 2147483647#32 (fun l : Fin k =>
    if f (n + l.val) = m then BitVec.ofNat 32 (n + l.val) else 2147483647#32) = w at h1 h2
  have hbig : (2147483647#32 : BitVec 32).toInt = 2147483647 := by decide
  have hle : w.toInt ≤ (n + l.val : ℕ) := by
    have := h1 l (Finset.mem_univ _)
    rwa [if_pos hl, toInt_col (by omega)] at this
  have hne : w ≠ 2147483647#32 := fun e => by
    rw [e, hbig] at hle
    omega
  rcases h2 with h2 | ⟨i, -, h2⟩
  · exact absurd h2 hne
  by_cases hi : f (n + i.val) = m
  · rw [if_pos hi] at h2
    refine ⟨n + i.val, h2, by omega, by omega, hi, fun c hc1 hc2 => lt_of_le_of_ne (hu c hc1 (by omega)) fun e => ?_⟩
    have : w.toInt ≤ (if f (n + (c - n)) = m then BitVec.ofNat 32 (n + (c - n)) else 2147483647#32).toInt :=
      h1 ⟨c - n, by omega⟩ (Finset.mem_univ _)
    rw [Nat.add_sub_of_le hc1, if_pos e, h2, toInt_col (by omega), toInt_col (by omega)] at this
    omega
  · rw [if_neg hi] at h2
    exact absurd h2 hne

end Cert.Gumbel
-- ==== Proof.KArg.lean ====
/-
  The kernel's running pair at every point: the maximum of the row's scores so far, and the least column attaining it.
-/
module

public import proofs.«01_k».proof.Proof.KHash
public import proofs.«01_k».proof.Proof.Score

@[expose] public section

noncomputable section

namespace Cert.GumbelK

open Cert.KernelIdeal Cert.KernelIdeal.Gen
open Idealize.ShloMosaic Idealize.ShloMosaic.TcCoe
open Idealize.ShloMosaic.Pipeline (Window)
open Cert.Gumbel

/-- Minus infinity's pattern is the least extended real. -/
theorem bot_eq : (Scalar.ofBits (F := Ideal) .f32 0xFF800000#32 : EReal) = ⊥ := by
  show Ideal.ofBits .f32 0xFF800000#32 = ⊥
  simp [Ideal.ofBits, Ideal.ieee]

/-- The row's index of a column of a block, -/
theorem ix_row (j : S64x1.Idx) : (S64.rowMajor (ix1 ⟨(j 0).val, (j 0).isLt⟩)).val = (S64x1.rowMajor j).val := by
  have h1 : (j 1).val = 0 := Nat.lt_one_iff.mp (j 1).isLt
  rw [Shape.rowMajor_val_two, h1]
  show (S64.rowMajor (ix1 ⟨(j 0).val, _⟩)).val = (j 0).val * 1 + 0
  rw [Shape.rowMajor_val_one]
  simp

/-- One row's maximum of a block: the fold of its lanes. -/
theorem blkMax_row (i : grid0.Coords) (Z : Vec Ideal S64x2048 .f32) (f : ℕ → EReal) (n : ℕ) (j : S64x1.Idx)
    (h : ∀ x : S64x2048.Idx, (x 0).val = (j 0).val → blkScore (F := Ideal) i Z x = f (n + (x 1).val)) :
    blkMax (F := Ideal) i Z j = (Finset.univ : Finset (Fin 2048)).fold max ⊥ fun l => f (n + l.val) := by
  have e : blkMax (F := Ideal) i Z = shapeCast S64x1 (multiReduction .maximumf [1] S64 (blkScore i Z) 0xFF800000#32 reduces_S64x2048_S64 (.inl rfl) rfl) shapeCasts_S64_S64x1 := rfl
  refine (congrFun e j).trans ((shapeCast_apply _ _ j (ix1 ⟨(j 0).val, (j 0).isLt⟩) (ix_row j)).trans
    ((Ideal.multiReduction_maximumf_single _ _ _ _ _ _).trans ?_))
  rw [show (FloatOps.ofBits (F := Ideal) .f32 0xFF800000#32 : EReal) = ⊥ from bot_eq]
  refine Finset.fold_congr fun l _ => ?_
  exact h _ rfl

/-- A lane's candidate column: its own where its score is the row's maximum, the largest word elsewhere. -/
theorem cand_lane (i : grid0.Coords) (Z : Vec Ideal S64x2048 .f32) (f : ℕ → EReal) (n : ℕ) (hn : n = (i 1).val * 2048) (j : S64x1.Idx)
    (M : EReal) (hM : blkMax (F := Ideal) i Z j = M)
    (h : ∀ x : S64x2048.Idx, (x 0).val = (j 0).val → blkScore (F := Ideal) i Z x = f (n + (x 1).val))
    (x : S64x2048.Idx) (l : Fin 2048) (hx0 : (x 0).val = (j 0).val) (hx1 : (x 1).val = l.val) :
    select (cmpf .oeq (blkScore (F := Ideal) i Z) (broadcastTo S64x2048 (blkMax (F := Ideal) i Z) broadcasts_S64x1_S64x2048))
        (k0_pay52 (colBase i) laneIdx) (broadcast S64x2048 2147483647#32) x
      = if f (n + l.val) = M then BitVec.ofNat 32 (n + l.val) else 2147483647#32 := by
  have hb : broadcastTo S64x2048 (blkMax (F := Ideal) i Z) broadcasts_S64x1_S64x2048 x = M := by
    rw [← hM]
    refine broadcastTo_apply _ _ x j fun a => ?_
    match a with
    | ⟨0, _⟩ => exact hx0.symm
    | ⟨1, _⟩ => exact Nat.lt_one_iff.mp (j 1).isLt
  show Scalar.select (FloatOps.cmpf .oeq (blkScore (F := Ideal) i Z x) (broadcastTo S64x2048 (blkMax (F := Ideal) i Z) broadcasts_S64x1_S64x2048 x))
    (k0_pay52 (colBase i) laneIdx x) 2147483647#32 = _
  rw [hb, h x hx0, col_eq, hx1, ← hn, Ideal.cmpf_def]
  by_cases hc : f (n + l.val) = M <;> simp [Ideal.cmp, Scalar.select, hc]

/-- One row's least maximizing column of a block: the signed minimum of the columns whose lane attains the maximum. -/
theorem blkIdx_row (i : grid0.Coords) (Z : Vec Ideal S64x2048 .f32) (f : ℕ → EReal) (n : ℕ) (hn : n = (i 1).val * 2048) (j : S64x1.Idx)
    (h : ∀ x : S64x2048.Idx, (x 0).val = (j 0).val → blkScore (F := Ideal) i Z x = f (n + (x 1).val)) :
    blkIdx (F := Ideal) i Z j = (Finset.univ : Finset (Fin 2048)).fold IntOp.minsi 2147483647#32 (fun l =>
        if f (n + l.val) = (Finset.univ : Finset (Fin 2048)).fold max ⊥ (fun l => f (n + l.val)) then BitVec.ofNat 32 (n + l.val)
        else 2147483647#32) := by
  have hM := blkMax_row i Z f n j h
  generalize (Finset.univ : Finset (Fin 2048)).fold max ⊥ (fun l => f (n + l.val)) = M at hM ⊢
  have e : blkIdx (F := Ideal) i Z = shapeCast S64x1 (multiReductionI .minsi [1] S64
      (select (cmpf .oeq (blkScore i Z) (broadcastTo S64x2048 (blkMax i Z) broadcasts_S64x1_S64x2048)) (k0_pay52 (colBase i) laneIdx) (broadcast S64x2048 2147483647#32))
      2147483647#32 reduces_S64x2048_S64 rfl) shapeCasts_S64_S64x1 := rfl
  refine (congrFun e j).trans ((shapeCast_apply _ _ j (ix1 ⟨(j 0).val, (j 0).isLt⟩) (ix_row j)).trans
    ((multiReductionI_eq_fold _ _ _ _ _ _).trans
      ((Shape.Reduces.fold_filter_drop_single reduces_S64x2048_S64 IntOp.minsi 2147483647#32 _ _).trans ?_)))
  refine Finset.fold_congr fun l _ => ?_
  exact cand_lane i Z f n hn j M hM h _ l rfl rfl

variable (m : (ℓ : Loc nD τ sig) → Buf (Elt Ideal) ℓ)

/-- The logits as launched. -/
abbrev logits (c : Dev nD) : S128x100000.Idx → EReal := m ((c : Thread nD τ).loc main_arg0)

/-- A lane of point `t`'s scores is the row's score at its column. -/
theorem blkScore_cell (c : Dev nD) (t : Fin cfg0.N) (x : S64x2048.Idx) :
    blkScore (F := Ideal) (grid0.coords t) (blk m c t) x = score (logits m c) (t.val / 49 * 64 + (x 0).val) (t.val % 49 * 2048 + (x 1).val) := by
  rw [blkScore_apply, blkNoise_eq, coords_0, coords_1, bot_eq, Ideal.addf_def]
  have hlt := lt98 t
  have hx0 : (x 0).val < 64 := (x 0).isLt
  unfold score
  by_cases hc : t.val % 49 * 2048 + (x 1).val < 100000
  · rw [if_pos hc, if_pos hc, cell, dif_pos ⟨by omega, hc⟩]
    congr 1
    unfold blk Window.fill
    rw [dif_pos (moved_of_lt _ _ (by rw [coords_1]; exact hc))]
    unfold iblk
    rw [View.read_apply]
    show V m c main_arg0 _ = m (c.tc.loc main_arg0) _
    unfold V
    congr 1
    funext a
    apply Fin.ext
    match a with
    | ⟨0, _⟩ =>
      show cc0_transform_0 (grid0.coords t) 0 * 64 + 1 * (x 0).val = t.val / 49 * 64 + (x 0).val
      rw [transform_0, coords_0]; omega
    | ⟨1, _⟩ =>
      show cc0_transform_0 (grid0.coords t) 1 * 2048 + 1 * (x 1).val = t.val % 49 * 2048 + (x 1).val
      rw [transform_1, coords_1]; omega
  · rw [if_neg hc, if_neg hc]

/-- What a step makes of a row's pair: the block's where its maximum is larger, else the pair as it was. -/
theorem newMax_row (i : grid0.Coords) (X : Vec Ideal S64x2048 .f32) (M : Vec Ideal S64x1 .f32) (j : S64x1.Idx) :
    newMax (F := Ideal) i X M j = if baseMax i M j < blkMax i X j then blkMax i X j else baseMax i M j := by
  have e : newMax (F := Ideal) i X M j = Scalar.select (FloatOps.cmpf .ogt (blkMax (F := Ideal) i X j) (baseMax (F := Ideal) i M j)) (blkMax i X j) (baseMax i M j) := by
    unfold newMax k0_pay5
    simp only [shapeCast_self]
    rfl
  rw [e, Ideal.cmpf_def]
  by_cases hc : baseMax (F := Ideal) i M j < blkMax i X j <;> simp [Ideal.cmp, Scalar.select, hc]
/-- The index likewise. -/
theorem newIdx_row (i : grid0.Coords) (X : Vec Ideal S64x2048 .f32) (M : Vec Ideal S64x1 .f32) (I : IVec S64x1 32) (j : S64x1.Idx) :
    newIdx (F := Ideal) i X M I j = if baseMax (F := Ideal) i M j < blkMax i X j then blkIdx (F := Ideal) i X j else baseIdx i I j := by
  have e : newIdx (F := Ideal) i X M I j = Scalar.select (FloatOps.cmpf .ogt (blkMax (F := Ideal) i X j) (baseMax (F := Ideal) i M j)) (blkIdx (F := Ideal) i X j) (baseIdx i I j) := by
    unfold newIdx k0_pay4
    simp only [shapeCast_self]
    rfl
  rw [e, Ideal.cmpf_def]
  by_cases hc : baseMax (F := Ideal) i M j < blkMax i X j <;> simp [Ideal.cmp, Scalar.select, hc]

/-- A row block's start is minus infinity -/
theorem pay1_row (j : S64x1.Idx) : k0_pay1 (F := Ideal) j = ⊥ := by
  unfold k0_pay1
  simp only [shapeCast_self]
  exact bot_eq
/-- with column zero. -/
theorem pay2_row (j : S64x1.Idx) : k0_pay2 j = 0#32 := by
  unfold k0_pay2
  simp only [shapeCast_self]
  rfl

/-- A row's pair stands for its first `n` columns: the maximum, and the word of the least column attaining it. -/
def Holds (f : ℕ → EReal) (n : ℕ) (M : EReal) (w : BitVec 32) : Prop := ∃ I, w = BitVec.ofNat 32 I ∧ IsArg f n M I

/-- One step of a row: from its first `n` columns to `2048` more. -/
theorem step_row (i : grid0.Coords) (X : Vec Ideal S64x2048 .f32) (M : Vec Ideal S64x1 .f32) (I : IVec S64x1 32) (f : ℕ → EReal)
    (n : ℕ) (hn : n = (i 1).val * 2048) (j : S64x1.Idx)
    (h : ∀ x : S64x2048.Idx, (x 0).val = (j 0).val → blkScore (F := Ideal) i X x = f (n + (x 1).val))
    (hb : Holds f n (baseMax (F := Ideal) i M j) (baseIdx i I j)) :
    Holds f (n + 2048) (newMax (F := Ideal) i X M j) (newIdx (F := Ideal) i X M I j) := by
  have hi : (i 1).val < 49 := (i 1).isLt
  obtain ⟨T₀, hT₀, hA⟩ := hb
  obtain ⟨h1, h2⟩ := block_spec (f := f) (n := n) (k := 2048) (by omega)
  rw [newMax_row, newIdx_row, hT₀, blkIdx_row i X f n hn j h, blkMax_row i X f n j h]
  generalize (Finset.univ : Finset (Fin 2048)).fold max ⊥ (fun l => f (n + l.val)) = mx at h1 h2 ⊢
  generalize baseMax (F := Ideal) i M j = M₀ at hA ⊢
  by_cases hm : ⊥ < mx
  · obtain ⟨T, hT, hT'⟩ := h2 hm
    refine ⟨if M₀ < mx then T else T₀, ?_, hA.step h1 fun _ => hT'⟩
    rw [hT]
    split <;> rfl
  · have hn : ¬ M₀ < mx := fun hl => hm (lt_of_le_of_lt bot_le hl)
    have hs := hA.step (T := 0) h1 fun hl => absurd hl hm
    rw [if_neg hn] at hs ⊢
    rw [if_neg hn] at hs ⊢
    exact ⟨T₀, rfl, hs⟩

/-- One point of a row: from the pair the point starts from to the pair it leaves. -/
theorem acc_step (c : Dev nD) (t : Fin cfg0.N) (j : S64x1.Idx)
    (hb : Holds (score (logits m c) (t.val / 49 * 64 + (j 0).val)) (t.val % 49 * 2048)
      (baseMax (F := Ideal) (grid0.coords t) (acc m c t.val).1 j) (baseIdx (grid0.coords t) (acc m c t.val).2 j)) :
    Holds (score (logits m c) (t.val / 49 * 64 + (j 0).val)) ((t.val % 49 + 1) * 2048)
      ((acc m c (t.val + 1)).1 j) ((acc m c (t.val + 1)).2 j) := by
  have hn : t.val % 49 * 2048 = (grid0.coords t 1).val * 2048 := by rw [coords_1 t]
  have hx : ∀ x : S64x2048.Idx, (x 0).val = (j 0).val → blkScore (F := Ideal) (grid0.coords t) (blk m c t) x
      = score (logits m c) (t.val / 49 * 64 + (j 0).val) (t.val % 49 * 2048 + (x 1).val) := fun x hx => by
    rw [blkScore_cell, hx]
  generalize score (logits m c) (t.val / 49 * 64 + (j 0).val) = f at hb hx ⊢
  rw [acc_succ, Nat.succ_mul]
  generalize t.val % 49 * 2048 = n at hb hx hn ⊢
  generalize hM : (acc m c t.val).1 = M at hb ⊢
  generalize hI : (acc m c t.val).2 = I at hb ⊢
  generalize hX : blk m c t = X at hx ⊢
  generalize hi : grid0.coords t = i at hx hb hn ⊢
  have key := step_row i X M I f n hn j hx hb
  dsimp only
  exact key

/-- The running pair after every point: each row of its row block has seen the columns up to the end of its column block. -/
theorem acc_holds (c : Dev nD) (j : S64x1.Idx) (n : ℕ) (h : n < cfg0.N) :
    Holds (score (logits m c) (n / 49 * 64 + (j 0).val)) ((n % 49 + 1) * 2048) ((acc m c (n + 1)).1 j) ((acc m c (n + 1)).2 j) := by
  induction n with
  | zero =>
    refine acc_step m c ⟨0, h⟩ j ?_
    have e := (atFirst_iff ⟨0, h⟩).mpr rfl
    unfold baseMax baseIdx
    rw [if_pos e, if_pos e, pay1_row, pay2_row]
    exact ⟨0, rfl, IsArg.zero _⟩
  | succ k ih =>
    refine acc_step m c ⟨k + 1, h⟩ j ?_
    by_cases h0 : (k + 1) % 49 = 0
    · have e := (atFirst_iff ⟨k + 1, h⟩).mpr h0
      unfold baseMax baseIdx
      rw [if_pos e, if_pos e, pay1_row, pay2_row]
      dsimp only
      rw [h0]
      exact ⟨0, rfl, IsArg.zero _⟩
    · have e := mt (atFirst_iff ⟨k + 1, h⟩).mp h0
      unfold baseMax baseIdx
      rw [if_neg e, if_neg e]
      dsimp only
      rw [show (k + 1) / 49 = k / 49 by omega, show (k + 1) % 49 = k % 49 + 1 by omega]
      exact ih (Nat.lt_of_succ_lt h)

/-- What a row block's last point leaves: each row's column. -/
theorem acc_last (c : Dev nD) (t : Fin cfg0.N) (h : t.val % 49 = 48) (j : S64x1.Idx) :
    (acc m c (t.val + 1)).2 j = BitVec.ofNat 32 (argCol (score (logits m c) (t.val / 49 * 64 + (j 0).val)) 100000) := by
  obtain ⟨I, hI, hA⟩ := acc_holds m c j t.val t.isLt
  rw [h] at hA
  rw [hI, (hA.cut (k := 100000) (by decide) fun c hc => by rw [score, if_neg (by omega)]).eq_argCol]

end Cert.GumbelK
-- ==== Proof.KResult.lean ====
/-
  What the kernel's result holds: the two row blocks' last points fill the result array with each row's column, and the
  host's reshape drops its unit axis.
-/
module

public import proofs.«01_k».proof.Proof.KArg
public import Idealize.ShloMosaic.Lib.StableHlo.Run

@[expose] public section

noncomputable section

namespace Cert.GumbelK

open Cert.KernelIdeal Cert.KernelIdeal.Gen
open Idealize.ShloMosaic Idealize.ShloMosaic.TcCoe Idealize.SL.Sem
open Idealize.ShloMosaic.Pipeline (Window Dat)
open Cert.Gumbel

variable (m : (ℓ : Loc nD τ sig) → Buf (Elt Ideal) ℓ) (ρ : Dev nD → PrngReg)

/-- The row block the result's index map gives; -/
theorem out_0 (i : grid0.Coords) : cc0_transform_1 i 0 = (i 0).val := by
  have h0 : (i 0).val < 2 := (i 0).isLt
  show (BitVec.ofNat 32 (i 0).val).toNat = _
  rw [WordCmp.toNat_ofNat_of_lt (by omega)]
/-- its other coordinate is zero. -/
theorem out_1 (i : grid0.Coords) : cc0_transform_1 i 1 = 0 := rfl

/-- The result array: each row's column. -/
def column (c : Dev nD) : S128x1.Idx → BitVec 32 := fun i => BitVec.ofNat 32 (argCol (score (logits m c) (i 0).val) 100000)

/-- A row block's last point writes that array's own block. -/
theorem flushed_eq (c : Dev nD) (t : Fin cfg0.N) (hf : (cfg0.win 1).flush t = true) :
    (dats m 0 c).flushed 1 t = ((cfg0.win 1).blk t).view.read (Elt Ideal) (column m c) := by
  have h48 := (flush0_1 t).mp hf
  funext j
  rw [View.read_apply]
  have e1 : (dats m 0 c).flushed 1 t j = (acc m c (t.val + 1)).2 ((cfg0.win 1).xinj (grid0.coords t) j) := rfl
  refine e1.trans ((acc_last m c t h48 _).trans ?_)
  have e2 : (((cfg0.win 1).blk t).view.emb j (0 : Fin 2)).val = cc0_transform_1 (grid0.coords t) 0 * 64 + 1 * (j (0 : Fin 2)).val := rfl
  rw [out_0, coords_0, Nat.one_mul] at e2
  show _ = BitVec.ofNat 32 (argCol (score (logits m c) (((cfg0.win 1).blk t).view.emb j (0 : Fin 2)).val) 100000)
  rw [e2]

/-- So the result array ends holding it: every row is in one of the two blocks. -/
theorem final_column (c : Dev nD) : (dats m 0 c).arrAt 1 cfg0.N = column m c :=
  (dats m 0 c).arrAt_eq_of_cover 1 (column m c) (flushed_eq m c) fun i => by
    have h0 : (i (0 : Fin 2) : Nat) < 128 := (i (0 : Fin 2)).isLt
    have h1 : (i (1 : Fin 2) : Nat) < 1 := (i (1 : Fin 2)).isLt
    have hN : cfg0.N = 98 := N_0
    have ht : (i (0 : Fin 2) : Nat) / 64 * 49 + 48 < cfg0.N := by omega
    refine ⟨⟨_, ht⟩, (flush0_1 _).mpr (by dsimp only; omega), ?_⟩
    show i ∈ ((View.whole main_call0_v0).slice (win0_1.rect ⟨_, ht⟩)).set
    rw [View.set_slice_whole, Rect.mem_set_unit]
    intro a
    match a with
    | ⟨0, _⟩ =>
      show cc0_transform_1 (grid0.coords ⟨_, ht⟩) 0 * 64 ≤ (i (0 : Fin 2) : Nat) ∧ (i (0 : Fin 2) : Nat) < cc0_transform_1 (grid0.coords ⟨_, ht⟩) 0 * 64 + 64
      rw [out_0, coords_0]
      dsimp only
      omega
    | ⟨1, _⟩ =>
      show cc0_transform_1 (grid0.coords ⟨_, ht⟩) 1 * 1 ≤ (i (1 : Fin 2) : Nat) ∧ (i (1 : Fin 2) : Nat) < cc0_transform_1 (grid0.coords ⟨_, ht⟩) 1 * 1 + 1
      rw [out_1]
      omega

/-- The result, its unit axis dropped. -/
def result (c : Dev nD) : S128.Idx → BitVec 32 := fun j => BitVec.ofNat 32 (argCol (score (logits m c) (j 0).val) 100000)

/-- The host's reshape of the result array is that. -/
theorem tail_eq (c : Dev nD) :
    Pipeline.afterTail₀ cfgs (dats m) 0 (V0 m) [hostOps1] c main_v0 = result m c := by
  unfold Pipeline.afterTail₀
  have e : ∀ X : Valuation τ sig (Elt Ideal), StableHlo.after [hostOps1 (F := Ideal)].flatten X (Proc.devRef .tc main_v0)
      = shapeCast S128 (X (Proc.devRef .tc main_call0_v0) : S128x1.Idx → BitVec 32) shapeCasts_S128x1_S128 := fun X => rfl
  rw [e]
  have hw := Pipeline.withArrays_arr (cfgs 0).spec (launch0.win.arr_inj) c (V0 m c) (fun w => (dats m 0 c).arrAt w (cfgs 0).N) 1
  funext j
  refine (shapeCast_apply _ _ j (ix2 ⟨(j 0).val, (j 0).isLt⟩ ⟨0, Nat.one_pos⟩) ?_).trans ?_
  · rw [Shape.rowMajor_val_two, Shape.rowMajor_val_one]
    show (j 0).val * 1 + 0 = (j 0).val
    omega
  · exact congrFun (hw.trans (final_column m c)) _

/-- The run, read: the result at each row's column, the logits as launched. -/
theorem run_result : θ_run (defs (F := Ideal)) (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0) :=
  (θ_run defs _ _).mono (fun _ h c => ⟨((h.1 c).2 main_v0 (by decide)).trans (tail_eq m c), ((h.1 c).1 0).trans ((dats m 0 c).arrAt_in 0 rfl _)⟩)
    (run_main m ρ)

end Cert.GumbelK
-- ==== Proof.RHash.lean ====
/-
  The reference's hash: what an element of its arrays holds after every round, its counters, and the Gumbel noise.
-/
module

public import proofs.«01_k».proof.Proof.RLine
public import proofs.«01_k».proof.Proof.Hash

@[expose] public section

noncomputable section

namespace Cert.GumbelR

open Idealize.ShloMosaic Idealize.ShloMosaic.StableHlo Cert.ReferenceIdeal Cert.HostLine Cert.Gumbel
open Facts₀

variable {F : FTy → Type} [FloatOps F] {X : Valuation τ sig (Elt F)} {j : S128x100000.Idx} {p : Pair}

/-- Element `j` of two word arrays is the pair `p`. -/
def Elem (X : Valuation τ sig (Elt F)) (j : S128x100000.Idx) (x₀ x₁ : WArr) (p : Pair) : Prop :=
  rd X x₀ j = p.1 ∧ rd X x₁ j = p.2

/-- A scalar holds the word `k`. -/
def Word (X : Valuation τ sig (Elt F)) (k : WScl) (w : BitVec 32) : Prop := ∀ i, rd X k i = w

/-- One round on the arrays is the round on each element. -/
theorem Elem.round {a b : ℕ} {x₀ x₁ s : WArr} {c : WScl} {v l : WArr} {c' : WScl} {v' r o y : WArr}
    (h : Elem X j x₀ x₁ p) (e : (roundSteps (F := F) a b x₀ x₁ s c v l c' v' r o y).Forall fun t => t.eqn X)
    (ha : a < 32 := by decide) (hb : b < 32 := by decide) : Elem X j s y (rnd a b p) := by
  obtain ⟨h1, h2⟩ := h
  obtain ⟨e1, e2, e3, e4, e5, e6, e7, e8, e9⟩ := e
  have e1 : rd X s = addi (rd X x₀) (rd X x₁) := e1
  have e2 : rd X c = constantI S_ 32 (BitVec.ofNat 32 a) := e2
  have e3 : rd X v = spread (rd X c) := e3
  have e4 : rd X l = Host.shli (rd X x₁) (rd X v) := e4
  have e5 : rd X c' = constantI S_ 32 (BitVec.ofNat 32 b) := e5
  have e6 : rd X v' = spread (rd X c') := e6
  have e7 : rd X r = Host.shrui (rd X x₁) (rd X v') := e7
  have e8 : rd X o = ori (rd X l) (rd X r) := e8
  have e9 : rd X y = xori (rd X s) (rd X o) := e9
  refine ⟨?_, ?_⟩
  · rw [e1]
    show rd X x₀ j + rd X x₁ j = _
    rw [h1, h2]; rfl
  · rw [e9, e8, e7, e6, e5, e4, e3, e2, e1]
    show (rd X x₀ j + rd X x₁ j) ^^^ (IntOp.shli .host (rd X x₁ j) (BitVec.ofNat 32 a) |||
      IntOp.shrui .host (rd X x₁ j) (BitVec.ofNat 32 b)) = _
    rw [shli_of_lt _ _ ha, shrui_of_lt _ _ hb, h1, h2]; rfl

/-- A key injection on the arrays is the injection on each element. -/
theorem Elem.key {n : ℕ} {k k' : WScl} {x₀ x₁ v y₀ v' t : WArr} {c : WScl} {u y₁ : WArr} {w w' : BitVec 32}
    (h : Elem X j x₀ x₁ p) (hk : Word X k w) (hk' : Word X k' w')
    (e : (keySteps (F := F) n k k' x₀ x₁ v y₀ v' t c u y₁).Forall fun t => t.eqn X) :
    Elem X j y₀ y₁ (inj n w w' p) := by
  obtain ⟨h1, h2⟩ := h
  obtain ⟨e1, e2, e3, e4, e5, e6, e7⟩ := e
  have e1 : rd X v = spread (rd X k) := e1
  have e2 : rd X y₀ = addi (rd X x₀) (rd X v) := e2
  have e3 : rd X v' = spread (rd X k') := e3
  have e4 : rd X t = addi (rd X x₁) (rd X v') := e4
  have e5 : rd X c = constantI S_ 32 (BitVec.ofNat 32 n) := e5
  have e6 : rd X u = spread (rd X c) := e6
  have e7 : rd X y₁ = addi (rd X t) (rd X u) := e7
  refine ⟨?_, ?_⟩
  · rw [e2, e1]
    show rd X x₀ j + rd X k _ = _
    rw [h1, hk]; rfl
  · rw [e7, e6, e5, e4, e3]
    show rd X x₁ j + rd X k' _ + BitVec.ofNat 32 n = _
    rw [h2, hk']; rfl

/-- The hash's two result arrays hold each element's hash. -/
theorem hash_at {arg0 arg1 : WScl} {arg2 arg3 : WArr} {φ : fn_threefry2x32.Bufs} {k₀ k₁ : BitVec 32}
    (h : (tfSteps (F := F) arg0 arg1 arg2 arg3 φ).Forall fun t => t.eqn X)
    (hk₀ : Word X arg0 k₀) (hk₁ : Word X arg1 k₁) (hp : Elem X j arg2 arg3 p) :
    Elem X j φ.v171 φ.v175 (hash k₀ k₁ ((k₀ ^^^ k₁) ^^^ 466688986#32) p) := by
  obtain ⟨a, h⟩ := List.forall_append.mp h
  obtain ⟨r1, h⟩ := List.forall_append.mp h
  obtain ⟨r2, h⟩ := List.forall_append.mp h
  obtain ⟨r3, h⟩ := List.forall_append.mp h
  obtain ⟨r4, h⟩ := List.forall_append.mp h
  obtain ⟨q1, h⟩ := List.forall_append.mp h
  obtain ⟨r5, h⟩ := List.forall_append.mp h
  obtain ⟨r6, h⟩ := List.forall_append.mp h
  obtain ⟨r7, h⟩ := List.forall_append.mp h
  obtain ⟨r8, h⟩ := List.forall_append.mp h
  obtain ⟨q2, h⟩ := List.forall_append.mp h
  obtain ⟨r9, h⟩ := List.forall_append.mp h
  obtain ⟨r10, h⟩ := List.forall_append.mp h
  obtain ⟨r11, h⟩ := List.forall_append.mp h
  obtain ⟨r12, h⟩ := List.forall_append.mp h
  obtain ⟨q3, h⟩ := List.forall_append.mp h
  obtain ⟨r13, h⟩ := List.forall_append.mp h
  obtain ⟨r14, h⟩ := List.forall_append.mp h
  obtain ⟨r15, h⟩ := List.forall_append.mp h
  obtain ⟨r16, h⟩ := List.forall_append.mp h
  obtain ⟨q4, h⟩ := List.forall_append.mp h
  obtain ⟨r17, h⟩ := List.forall_append.mp h
  obtain ⟨r18, h⟩ := List.forall_append.mp h
  obtain ⟨r19, h⟩ := List.forall_append.mp h
  obtain ⟨r20, q5⟩ := List.forall_append.mp h
  obtain ⟨a1, a2, a3, a4, a5, a6, a7⟩ := a
  have a1 : rd X φ.v0 = xori (rd X arg0) (rd X arg1) := a1
  have a2 : rd X φ.c = constantI S_ 32 466688986#32 := a2
  have a3 : rd X φ.v1 = xori (rd X φ.v0) (rd X φ.c) := a3
  have a4 : rd X φ.v2 = spread (rd X arg0) := a4
  have a5 : rd X φ.v3 = addi (rd X arg2) (rd X φ.v2) := a5
  have a6 : rd X φ.v4 = spread (rd X arg1) := a6
  have a7 : rd X φ.v5 = addi (rd X arg3) (rd X φ.v4) := a7
  have hk₂ : Word X φ.v1 ((k₀ ^^^ k₁) ^^^ 466688986#32) := fun i => by
    rw [a3, a2, a1]
    show (rd X arg0 i ^^^ rd X arg1 i) ^^^ 466688986#32 = _
    rw [hk₀, hk₁]
  have h0 : Elem X j φ.v3 φ.v5 (p.1 + k₀, p.2 + k₁) := by
    refine ⟨?_, ?_⟩
    · rw [a5, a4]
      show rd X arg2 j + rd X arg0 _ = _
      rw [hp.1, hk₀]
    · rw [a7, a6]
      show rd X arg3 j + rd X arg1 _ = _
      rw [hp.2, hk₁]
  have h1 := ((((h0.round r1).round r2).round r3).round r4).key hk₁ hk₂ q1
  have h2 := ((((h1.round r5).round r6).round r7).round r8).key hk₂ hk₀ q2
  have h3 := ((((h2.round r9).round r10).round r11).round r12).key hk₀ hk₁ q3
  have h4 := ((((h3.round r13).round r14).round r15).round r16).key hk₁ hk₂ q4
  exact ((((h4.round r17).round r18).round r19).round r20).key hk₂ hk₀ q5

/-- The high word of a counter's 64 bits is zero. -/
theorem high_word (n : ℕ) (h : n < 2 ^ 32) : (IntOp.shrui .host (BitVec.ofNat 64 n) 32#64).setWidth 32 = 0#32 := by
  rw [IntOp.shrui, if_pos (by decide)]
  apply BitVec.eq_of_toNat_eq
  simp only [BitVec.toNat_setWidth, BitVec.ushiftRight_eq', BitVec.toNat_ushiftRight, BitVec.toNat_ofNat, Nat.shiftRight_eq_div_pow]
  rw [show 32 % 2 ^ 64 = 32 from rfl, Nat.mod_eq_of_lt (show n < 2 ^ 64 by omega), Nat.div_eq_of_lt h]
/-- The low word of a counter's 64 bits. -/
theorem low_word (n : ℕ) : (BitVec.ofNat 64 n).setWidth 32 = BitVec.ofNat 32 n := by
  apply BitVec.eq_of_toNat_eq
  simp only [BitVec.toNat_setWidth, BitVec.toNat_ofNat]
  omega

/-- An array of one element has one index. -/
theorem one_elem (i : S1.Idx) : (i 0).val = 0 := Nat.lt_one_iff.mp (i 0).isLt

/-- The uniform samples, as the host's chain of operations on the random bits of each element. -/
theorem uniform_at {arg0 : TRef sig ⟨S2, .i32⟩} {arg1 arg2 : TRef sig ⟨S_, .f32⟩} {φ : fn_uniform.Bufs} {one tiny : F .f32}
    (h : (uniformSteps (F := F) arg0 arg1 arg2 φ).Forall fun t => t.eqn X)
    (hk₀ : ∀ i : S2.Idx, (i 0).val = 0 → rd X arg0 i = 0#32) (hk₁ : ∀ i : S2.Idx, (i 0).val = 1 → rd X arg0 i = 42#32)
    (h1 : ∀ i, rd X arg1 i = one) (h2 : ∀ i, rd X arg2 i = tiny) (j : S128x100000.Idx) :
    rd X φ.v33 j = FloatOps.maximumf tiny (FloatOps.addf (FloatOps.mulf (FloatOps.subf
      (FloatOps.ofBits .f32 (mantissa (bitsOf (counterHash ((j 0).val * 100000 + (j 1).val)))))
      (FloatOps.ofBits .f32 0x3F800000#32)) (FloatOps.subf one tiny)) tiny) := by
  obtain ⟨a, h⟩ := List.forall_append.mp h
  obtain ⟨t, b⟩ := List.forall_append.mp h
  obtain ⟨a1, a2, a3, a4, a5, a6, a7, a8, a9, a10, a11, a12, a13, a14, a15, a16, a17, a18, a19, a20, a21⟩ := a
  have a1 : rd X φ.v0 = rd X arg1 := a1
  have a2 : rd X φ.v1 = broadcastInDim S1x1 ![] bcast_S_S1x1 (rd X arg2) := a2
  have a3 : rd X φ.v2 = broadcastInDim S1x1 ![] bcast_S_S1x1 (rd X φ.v0) := a3
  have a4 : rd X φ.v3 = extractStridedSlice S1 ![0] (rd X arg0) slices_S2_S1_0 := a4
  have a5 : rd X φ.v4 = fun i => shapeCast S_ (rd X φ.v3) shapeCasts_S1_S_ i := a5
  have a6 : rd X φ.v5 = extractStridedSlice S1 ![1] (rd X arg0) slices_S2_S1_1 := a6
  have a7 : rd X φ.v6 = fun i => shapeCast S_ (rd X φ.v5) shapeCasts_S1_S_ i := a7
  have a8 : rd X φ.v7 = iotaInDim S128x100000 64 0 := a8
  have a9 : rd X φ.v8 = iotaInDim S128x100000 64 1 := a9
  have a10 : rd X φ.c = constantI S_ 64 100000#64 := a10
  have a11 : rd X φ.v9 = broadcastInDim S128x100000 ![] bcast_S_S128x100000 (rd X φ.c) := a11
  have a12 : rd X φ.v10 = muli (rd X φ.v9) (rd X φ.v7) := a12
  have a13 : rd X φ.c_0 = constantI S_ 64 1#64 := a13
  have a14 : rd X φ.v11 = broadcastInDim S128x100000 ![] bcast_S_S128x100000 (rd X φ.c_0) := a14
  have a15 : rd X φ.v12 = muli (rd X φ.v11) (rd X φ.v8) := a15
  have a16 : rd X φ.v13 = addi (rd X φ.v10) (rd X φ.v12) := a16
  have a17 : rd X φ.c_1 = constantI S_ 64 32#64 := a17
  have a18 : rd X φ.v14 = broadcastInDim S128x100000 ![] bcast_S_S128x100000 (rd X φ.c_1) := a18
  have a19 : rd X φ.v15 = Host.shrui (rd X φ.v13) (rd X φ.v14) := a19
  have a20 : rd X φ.v16 = trunci 32 (rd X φ.v13) natLt_32_64 := a20
  have a21 : rd X φ.v17 = trunci 32 (rd X φ.v15) natLt_32_64 := a21
  obtain ⟨b1, b2, b3, b4, b5, b6, b7, b8, b9, b10, b11, b12, b13, b14, b15, b16, b17, b18⟩ := b
  have b1 : rd X φ.v19 = xori (rd X φ.call0.v171) (rd X φ.call0.v175) := b1
  have b2 : rd X φ.c_2 = constantI S_ 32 9#32 := b2
  have b3 : rd X φ.v20 = spread (rd X φ.c_2) := b3
  have b4 : rd X φ.v21 = Host.shrui (rd X φ.v19) (rd X φ.v20) := b4
  have b5 : rd X φ.c_3 = constantI S_ 32 1065353216#32 := b5
  have b6 : rd X φ.v22 = spread (rd X φ.c_3) := b6
  have b7 : rd X φ.v23 = ori (rd X φ.v21) (rd X φ.v22) := b7
  have b8 : rd X φ.v24 = bitcastToFloat .f32 (rd X φ.v23) := b8
  have b9 : rd X φ.cst = constant S_ .f32 0x3F800000#32 := b9
  have b10 : rd X φ.v25 = broadcastInDim S128x100000 ![] bcast_S_S128x100000 (rd X φ.cst) := b10
  have b11 : rd X φ.v26 = subf (rd X φ.v24 : FVec F S128x100000 .f32) (rd X φ.v25) := b11
  have b12 : rd X φ.v27 = subf (rd X φ.v2 : FVec F S1x1 .f32) (rd X φ.v1) := b12
  have b13 : rd X φ.v28 = broadcastInDim S128x100000 ![0, 1] bcast_S1x1_S128x100000_0_1 (rd X φ.v27) := b13
  have b14 : rd X φ.v29 = mulf (rd X φ.v26 : FVec F S128x100000 .f32) (rd X φ.v28) := b14
  have b15 : rd X φ.v30 = broadcastInDim S128x100000 ![0, 1] bcast_S1x1_S128x100000_0_1 (rd X φ.v1) := b15
  have b16 : rd X φ.v31 = addf (rd X φ.v29 : FVec F S128x100000 .f32) (rd X φ.v30) := b16
  have b17 : rd X φ.v32 = broadcastInDim S128x100000 ![0, 1] bcast_S1x1_S128x100000_0_1 (rd X φ.v1) := b17
  have b18 : rd X φ.v33 = maximumf (rd X φ.v32 : FVec F S128x100000 .f32) (rd X φ.v31) := b18
  have hj0 : (j 0).val < 128 := (j 0).isLt
  have hj1 : (j 1).val < 100000 := (j 1).isLt
  -- the counters
  have hc : rd X φ.v13 j = BitVec.ofNat 64 ((j 0).val * 100000 + (j 1).val) := by
    rw [a16, a15, a14, a13, a12, a11, a10, a9, a8]
    show 100000#64 * BitVec.ofNat 64 (j 0).val + 1#64 * BitVec.ofNat 64 (j 1).val = _
    rw [BitVec.one_mul, ← BitVec.ofNat_mul, ← BitVec.ofNat_add, Nat.mul_comm]
  have hp : Elem X j φ.v17 φ.v16 (0#32, BitVec.ofNat 32 ((j 0).val * 100000 + (j 1).val)) := by
    refine ⟨?_, ?_⟩
    · rw [a21, a19, a18, a17]
      show (IntOp.shrui .host (rd X φ.v13 j) 32#64).setWidth 32 = _
      rw [hc]
      exact high_word _ (by omega)
    · rw [a20]
      show (rd X φ.v13 j).setWidth 32 = _
      rw [hc]
      exact low_word _
  have hw₀ : Word X φ.v4 0#32 := fun i => by
    rw [a5, a4]
    exact hk₀ _ ((congrArg (0 + ·) (one_elem _)))
  have hw₁ : Word X φ.v6 42#32 := fun i => by
    rw [a7, a6]
    exact hk₁ _ ((congrArg (1 + ·) (one_elem _)))
  obtain ⟨h3, h4⟩ := hash_at t hw₀ hw₁ hp
  have hb : rd X φ.v23 j = mantissa (bitsOf (counterHash ((j 0).val * 100000 + (j 1).val))) := by
    rw [b7, b6, b5, b4, b3, b2, b1]
    show IntOp.shrui .host (rd X φ.call0.v171 j ^^^ rd X φ.call0.v175 j) (BitVec.ofNat 32 9) ||| 1065353216#32 = _
    rw [shrui_of_lt _ _ (by decide), h3, h4]
    rfl
  have h1' : ∀ i, rd X φ.v1 i = tiny := fun i => by rw [a2]; exact h2 _
  have h2' : ∀ i, rd X φ.v2 i = one := fun i => by rw [a3, a1]; exact h1 _
  rw [b18, b17, b16, b15, b14, b13, b12, b11, b10, b9, b8]
  show FloatOps.maximumf (rd X φ.v1 _) (FloatOps.addf (FloatOps.mulf (FloatOps.subf (FloatOps.ofBits .f32 (rd X φ.v23 j))
    (FloatOps.ofBits .f32 0x3F800000#32)) (FloatOps.subf (rd X φ.v2 _) (rd X φ.v1 _))) (rd X φ.v1 _)) = _
  simp only [hb, h1', h2']

/-- The noise of each element of the array. -/
theorem gumbel_at {arg0 : TRef sig ⟨S2, .i32⟩} {φ : fn_gumbel.Bufs} {X : Valuation τ sig (Elt Ideal)}
    (h : (gumbelSteps (F := Ideal) arg0 φ).Forall fun t => t.eqn X)
    (hk₀ : ∀ i : S2.Idx, (i 0).val = 0 → rd X arg0 i = 0#32) (hk₁ : ∀ i : S2.Idx, (i 0).val = 1 → rd X arg0 i = 42#32) (j : S128x100000.Idx) :
    rd X φ.v4 j = noiseAt (j 0).val (j 1).val := by
  obtain ⟨a, h⟩ := List.forall_append.mp h
  obtain ⟨u, b⟩ := List.forall_append.mp h
  obtain ⟨a1, a2⟩ := a
  have a1 : rd X φ.cst = constant (F := Ideal) S_ .f32 0x3F800000#32 := a1
  have a2 : rd X φ.cst_0 = constant (F := Ideal) S_ .f32 0x00800000#32 := a2
  obtain ⟨b1, b2, b3, b4⟩ := b
  have b1 : rd X φ.v1 = Host.log (F := Ideal) (rd X φ.call0.v33) := b1
  have b2 : rd X φ.v2 = Host.negf (F := Ideal) (rd X φ.v1) := b2
  have b3 : rd X φ.v3 = Host.log (F := Ideal) (rd X φ.v2) := b3
  have b4 : rd X φ.v4 = Host.negf (F := Ideal) (rd X φ.v3) := b4
  have hu := uniform_at (F := Ideal) (one := FloatOps.ofBits (F := Ideal) .f32 0x3F800000#32)
    (tiny := FloatOps.ofBits (F := Ideal) .f32 0x00800000#32)
    u hk₀ hk₁ (fun i => by rw [a1]; rfl) (fun i => by rw [a2]; rfl) j
  rw [b4, b3, b2, b1]
  show FloatOps.hostNegf (F := Ideal) (FloatOps.hostUnary .log (FloatOps.hostNegf (FloatOps.hostUnary .log (rd X φ.call0.v33 j)))) = _
  rw [hu]
  simp only [Ideal.ofBits_def, Ideal.subf_def, Ideal.addf_def, Ideal.mulf_def, Ideal.maximumf_def, Ideal.hostUnary_log_def,
    Ideal.hostNegf_def, Ideal.negf_def]
  rw [noiseAt, noise, uniform]

end Cert.GumbelR
-- ==== Proof.RValue.lean ====
/-
  The reference's result: the column its fold over each row of perturbed logits ends with.
-/
module

public import proofs.«01_k».proof.Proof.RHash
public import Idealize.ShloMosaic.Lib.Pipeline.Value

@[expose] public section

noncomputable section

namespace Cert.GumbelR

open Idealize.ShloMosaic Idealize.ShloMosaic.StableHlo Cert.ReferenceIdeal Cert.HostLine Cert.Gumbel
open Facts₀

/-- What the reference's result holds once every step's equation does: the fold's column over the perturbed logits. -/
theorem result_eq {X : Valuation τ sig (Elt Ideal)} (h : (mainSteps (F := Ideal)).Forall fun t => t.eqn X) :
    rd X (.of main_v9 : TRef sig ⟨S128, .i32⟩) = fun j => (Host.argReduce (F := Ideal) reducer_argmax_f32_i32
      (fun i : S128x100000.Idx => noiseAt (i 0).val (i 1).val + rd X (.of main_arg0 : TRef sig ⟨S128x100000, .f32⟩) i)
      (iotaInDim S128x100000 32 1) (constant S_ .f32 0xFF800000#32) (constantI S_ 32 0#32)
      reducesTo_S128x100000_S128_d1 h_S_ j).2 := by
  obtain ⟨a, h⟩ := List.forall_append.mp h
  obtain ⟨g, h⟩ := List.forall_append.mp h
  obtain ⟨b, e⟩ := List.forall_append.mp h
  obtain ⟨a1, a2, a3, a4, a5, a6, a7, a8, a9, a10⟩ := a
  have a1 : rd X (.of main_c : WScl) = constantI S_ 32 42#32 := a1
  have a2 : rd X (.of main_c_0 : WScl) = constantI S_ 32 32#32 := a2
  have a3 : rd X (.of main_v0 : WScl) = Host.shrui (rd X (.of main_c : WScl)) (rd X (.of main_c_0 : WScl)) := a3
  have a4 : rd X (.of main_v1 : WScl) = rd X (.of main_v0 : WScl) := a4
  have a5 : rd X (.of main_v2 : TRef sig ⟨S1, .i32⟩) = broadcastInDim S1 ![] bcast_S_S1 (rd X (.of main_v1 : WScl)) := a5
  have a6 : rd X (.of main_c_1 : WScl) = constantI S_ 32 4294967295#32 := a6
  have a7 : rd X (.of main_v3 : WScl) = andi (rd X (.of main_c : WScl)) (rd X (.of main_c_1 : WScl)) := a7
  have a8 : rd X (.of main_v4 : WScl) = rd X (.of main_v3 : WScl) := a8
  have a9 : rd X (.of main_v5 : TRef sig ⟨S1, .i32⟩) = broadcastInDim S1 ![] bcast_S_S1 (rd X (.of main_v4 : WScl)) := a9
  have a10 : rd X (.of main_v6 : TRef sig ⟨S2, .i32⟩) = concatenate S2 0 [⟨S1, rd X (.of main_v2 : TRef sig ⟨S1, .i32⟩)⟩,
    ⟨S1, rd X (.of main_v5 : TRef sig ⟨S1, .i32⟩)⟩] concatenates_S1_S1_S2_d0 := a10
  have k₀ : ∀ i, rd X (.of main_v2 : TRef sig ⟨S1, .i32⟩) i = 0#32 := fun i => by
    rw [a5, a4, a3, a2, a1]
    show IntOp.shrui .host 42#32 32#32 = _
    decide
  have k₁ : ∀ i, rd X (.of main_v5 : TRef sig ⟨S1, .i32⟩) i = 42#32 := fun i => by
    rw [a9, a8, a7, a6, a1]
    show 42#32 &&& 4294967295#32 = _
    decide
  have hg := gumbel_at g (fun i hi => by
    show rd X (.of main_v6 : TRef sig ⟨S2, .i32⟩) i = _
    rw [a10]
    exact (concatenate_pair_apply_left _ _ _ concatenates_S1_S1_S2_d0 i rfl (fun a => ⟨0, by obtain rfl : a = 0 := Subsingleton.elim _ _; decide⟩)
      (fun b => by obtain rfl : b = 0 := Subsingleton.elim _ _; exact hi.symm)).trans (k₀ _)) (fun i hi => by
    show rd X (.of main_v6 : TRef sig ⟨S2, .i32⟩) i = _
    rw [a10]
    exact (concatenate_pair_apply_right _ _ _ concatenates_S1_S1_S2_d0 i rfl rfl (fun a => ⟨0, by obtain rfl : a = 0 := Subsingleton.elim _ _; decide⟩)
      (fun b hb => absurd (Subsingleton.elim _ _) hb) hi.symm).trans (k₁ _))
  have b : rd X (.of main_v8 : TRef sig ⟨S128x100000, .f32⟩) = addf (F := Ideal) (rd X (.of main_v7 : TRef sig ⟨S128x100000, .f32⟩))
    (rd X (.of main_arg0 : TRef sig ⟨S128x100000, .f32⟩)) := b
  obtain ⟨e1, e2, e3, e4, e5⟩ := e
  have e1 : rd X main_call1.v0 = iotaInDim S128x100000 32 1 := e1
  have e2 : rd X main_call1.cst = constant (F := Ideal) S_ .f32 0xFF800000#32 := e2
  have e3 : rd X main_call1.c = constantI S_ 32 0#32 := e3
  have e5 : rd X (.of main_v9 : TRef sig ⟨S128, .i32⟩) = fun j => (Host.argReduce (F := Ideal) reducer_argmax_f32_i32
      (rd X (.of main_v8 : TRef sig ⟨S128x100000, .f32⟩)) (rd X main_call1.v0) (rd X main_call1.cst) (rd X main_call1.c)
      reducesTo_S128x100000_S128_d1 h_S_ j).2 := e5
  have hb : rd X (.of main_v8 : TRef sig ⟨S128x100000, .f32⟩) = fun i : S128x100000.Idx =>
      noiseAt (i 0).val (i 1).val + rd X (.of main_arg0 : TRef sig ⟨S128x100000, .f32⟩) i := by
    funext i
    rw [b]
    show rd X (.of main_v7 : TRef sig ⟨S128x100000, .f32⟩) i + _ = _
    rw [show rd X (.of main_v7 : TRef sig ⟨S128x100000, .f32⟩) i = _ from hg i]
  rw [e5, hb, e1, e2, e3]

end Cert.GumbelR
-- ==== Proof.RArg.lean ====
/-
  The reference's result, row by row: the column of the row's largest score.
-/
module

public import proofs.«01_k».proof.Proof.RValue
public import proofs.«01_k».proof.Proof.Score

@[expose] public section

noncomputable section

namespace Cert.GumbelR

open Idealize.ShloMosaic Idealize.ShloMosaic.StableHlo Cert.ReferenceIdeal Cert.HostLine Cert.Gumbel
open Facts₀

/-- A disjunction of bits chosen by tests is the disjunction of the tests. -/
theorem ori_bits (p q : Bool) : IntOp.ori (BitVec.ofBool p) (BitVec.ofBool q) = BitVec.ofBool (p || q) := by
  cases p <;> cases q <;> rfl
/-- A conjunction of bits chosen by tests is the conjunction of the tests. -/
theorem andi_bits (p q : Bool) : IntOp.andi (BitVec.ofBool p) (BitVec.ofBool q) = BitVec.ofBool (p && q) := by
  cases p <;> cases q <;> rfl
/-- A select on a test's bit chooses by the test. -/
theorem select_bit {α : Type} (p : Bool) (x y : α) : Scalar.select (BitVec.ofBool p) x y = if p = true then x else y := by
  cases p <;> rfl

/-- The reference's step of the fold is the argmax's step. -/
theorem reducer_eq (a b : EReal × BitVec 32) : reducer_argmax_f32_i32 (F := Ideal) a b = pick a b := by
  have h1 : FloatOps.cmpf (F := Ideal) (φ := .f32) .ogt a.1 b.1 = BitVec.ofBool (decide (b.1 < a.1)) := by
    rw [Ideal.cmpf_def]; simp [Ideal.cmp]
  have h2 : FloatOps.cmpf (F := Ideal) (φ := .f32) .une a.1 a.1 = BitVec.ofBool false := by
    rw [Ideal.cmpf_def]; simp [Ideal.cmp]
  have h3 : FloatOps.cmpf (F := Ideal) (φ := .f32) .oeq a.1 b.1 = BitVec.ofBool (decide (a.1 = b.1)) := by
    rw [Ideal.cmpf_def]; simp [Ideal.cmp]
  have h4 : IntOp.cmpi .slt a.2 b.2 = BitVec.ofBool (decide (a.2.toInt < b.2.toInt)) := rfl
  unfold reducer_argmax_f32_i32 pick
  simp only [h1, h2, h3, h4, ori_bits, andi_bits, select_bit, Bool.or_false, Bool.or_eq_true, Bool.and_eq_true,
    decide_eq_true_eq]

/-- What the reference's result holds once every step's equation does: each row's column. -/
theorem result_col {X : Valuation τ sig (Elt Ideal)} (h : (mainSteps (F := Ideal)).Forall fun t => t.eqn X) :
    rd X (.of main_v9 : TRef sig ⟨S128, .i32⟩) = fun j : S128.Idx => BitVec.ofNat 32
      (argCol (score (rd X (.of main_arg0 : TRef sig ⟨S128x100000, .f32⟩)) (j 0).val) 100000) := by
  rw [result_eq h]
  generalize rd X (.of main_arg0 : TRef sig ⟨S128x100000, .f32⟩) = A
  funext j
  rw [Ideal.argReduce_eq_reduce2, Host.reduce2_eq_foldl_fiber,
    show reducer_argmax_f32_i32 (F := Ideal) = pick from funext fun a => funext fun b => reducer_eq a b]
  have hb : (constant (F := Ideal) S_ .f32 0xFF800000#32 : S_.Idx → EReal) = fun _ => ⊥ := by
    funext i
    show Ideal.ofBits .f32 0xFF800000#32 = ⊥
    simp [Ideal.ofBits, Ideal.ieee]
  rw [hb]
  have hj : (j 0).val < 128 := (j 0).isLt
  have hmem : ∀ p, p ∈ Host.argReduceFiber (fun i : S128x100000.Idx => (noiseAt (i 0).val (i 1).val + A i : EReal))
      (iotaInDim S128x100000 32 1) reducesTo_S128x100000_S128_d1 j ↔
      ∃ c < 100000, p = (score A (j 0).val c, BitVec.ofNat 32 c) := by
    intro p
    unfold Host.argReduceFiber
    rw [List.mem_map]
    constructor
    · rintro ⟨n, hn, rfl⟩
      rw [List.mem_filter] at hn
      have hd := of_decide_eq_true hn.2
      generalize S128x100000.rowMajor.symm n = i at hd ⊢
      have h0 : (i 0).val = (j 0).val := by
        rw [← hd]
        exact (reducesTo_S128x100000_S128_d1.drop_apply_val_of_eq i 0 0).symm
      have h1 : (i 1).val < 100000 := (i 1).isLt
      refine ⟨(i 1).val, h1, ?_⟩
      rw [score, if_pos h1, ← h0, cell_eq]
      rfl
    · rintro ⟨c, hc, rfl⟩
      refine ⟨S128x100000.rowMajor (ix2 ⟨(j 0).val, hj⟩ ⟨c, hc⟩), ?_, ?_⟩
      · rw [List.mem_filter]
        refine ⟨List.mem_finRange _, decide_eq_true ?_⟩
        rw [Equiv.symm_apply_apply]
        funext b
        obtain rfl : b = 0 := Subsingleton.elim _ _
        exact Fin.ext (reducesTo_S128x100000_S128_d1.drop_apply_val_of_eq _ 0 0)
      · rw [Equiv.symm_apply_apply, score, if_pos hc, cell, dif_pos ⟨hj, hc⟩]
        rfl
  obtain ⟨I, hI, hA⟩ := (ArgOf.foldl (Host.argReduceFiber (fun i : S128x100000.Idx => (noiseAt (i 0).val (i 1).val + A i : EReal))
      (iotaInDim S128x100000 32 1) reducesTo_S128x100000_S128_d1 j) fun p hp => by
        obtain ⟨c, hc, rfl⟩ := (hmem p).mp hp
        dsimp only
        rw [toInt_col (by omega)]
        omega).isArg (by decide) hmem
  rw [← hA.eq_argCol]
  exact hI

end Cert.GumbelR
-- ==== Proof.Algebraic.lean ====
/-
  The value claim: read over the extended reals, the kernel and the reference end with the same column in every row.
-/
module

public import proofs.«01_k».proof.Defs
public import proofs.«01_k».proof.Proof.KResult
public import proofs.«01_k».proof.Proof.RArg
public import proofs.«01_k».proof.Proof.RRun

@[expose] public section

noncomputable section

namespace Cert.GumbelR

open Idealize.ShloMosaic Idealize.ShloMosaic.TcCoe Idealize.SL.Sem Idealize.ShloMosaic.StableHlo
open Cert.ReferenceIdeal Cert.HostLine Cert.Gumbel

/-- The reference's run, read: the result at each row's column, the logits as launched. -/
theorem run_result (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v9) = (fun j : S128.Idx => BitVec.ofNat 32
        (argCol (score (m ((c.tc : Thread nD τ).loc main_arg0) : S128x100000.Idx → EReal) (j 0).val) 100000)) ∧
      r.2.mem ((c.tc : Thread nD τ).loc main_arg0) = m ((c.tc : Thread nD τ).loc main_arg0)) :=
  θ_run_mono (run_main m g) fun r hr c => by
    obtain ⟨X, hX, ha, he⟩ := hr.1 c
    refine ⟨?_, (hX main_arg0).trans ha⟩
    have h := result_col he
    have ha' : rd X (.of main_arg0 : TRef sig ⟨S128x100000, .f32⟩) = m ((c.tc : Thread nD τ).loc main_arg0) := ha
    rw [ha'] at h
    exact (hX main_v9).trans h

end Cert.GumbelR

namespace Cert.Gumbel

open Idealize.ShloMosaic Idealize.ShloMosaic.TcCoe Idealize.SL.Sem

/-- From memories that agree on the logits, both end with each row's column and the logits as they were. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.GumbelK.result m c, Cert.GumbelK.run_result m g, ?_⟩
  refine θ_run_mono (Cert.GumbelR.run_result m' g') fun r hr c => ⟨(hr c).1.trans ?_, (hr c).2⟩
  rw [hm c]
  rfl

end Cert.Gumbel
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.RRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claims, one after the other. -/
theorem claim : Cert.Claim := ⟨Cert.Kernel.Gen.facts, Cert.KernelIdeal.Gen.facts, Cert.ReferenceIdeal.Gen.facts,
  fun m g _ => Cert.GumbelK.frame_kernel m g, fun m g _ => Cert.GumbelK.frame_ideal m g,
  fun m g _ => Cert.GumbelR.frame_reference m g, trivial, Cert.Gumbel.algebraic⟩

end Cert.Proof

end
